-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_finite_in_range : Cert.Pre_finite_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S50000x512 : Shape := ⟨2, ![50000, 512]⟩
abbrev S50000 : Shape := ⟨1, ![50000]⟩
abbrev S512 : Shape := ⟨1, ![512]⟩
abbrev S512x512 : Shape := ⟨2, ![512, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S50000 : S_.BroadcastsInDim S50000 (![] : Fin 0 → Fin S50000.rank)
  reducesTo_S50000_S_d0 : S50000.ReducesTo [0] S_

variable [Facts]

def fn {F : FTy → Type} [FloatOps F] (main_arg0 : FVec F S50000x512 .f32) (main_arg1 : IVec S50000 32) (main_arg2 : FVec F S512 .f32) (main_arg3 : FVec F S512x512 .f32) (main_arg4 : FVec F S512x512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg4
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_c_2 : IVec S_ 32 := constantI S_ 32 0#32
  let main_v9 : IVec S50000 32 := broadcastInDim S50000 ![] bcast_S_S50000 main_c_2
  let main_v10 : IVec S50000 1 := cmpi .sge main_arg1 main_v9
  let main_c_3 : IVec S_ 32 := constantI S_ 32 256#32
  let main_v11 : IVec S50000 32 := broadcastInDim S50000 ![] bcast_S_S50000 main_c_3
  let main_v12 : IVec S50000 1 := cmpi .slt main_arg1 main_v11
  let main_v13 : IVec S50000 1 := andi main_v10 main_v12
  let main_c_4 : IVec S_ 1 := constantI S_ 1 1#1
  let main_v14 : IVec S_ 1 := (fun x v => Host.reduce IntOp.andi x v reducesTo_S50000_S_d0 h_S_) main_v13 main_c_4
  let main_v15 : IVec S_ 1 := andi main_v8 main_v14
  main_v15
-- ==== Pre_ids_in_range.lean ====
abbrev S50000x512 : Shape := ⟨2, ![50000, 512]⟩
abbrev S50000 : Shape := ⟨1, ![50000]⟩
abbrev S512 : Shape := ⟨1, ![512]⟩
abbrev S512x512 : Shape := ⟨2, ![512, 512]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50000x512 .f32) (main_arg1 : IVec S50000 32) (main_arg2 : FVec F S512 .f32) (main_arg3 : FVec F S512x512 .f32) (main_arg4 : FVec F S512x512 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 256#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  main_v5
-- ==== Kernel.lean ====
abbrev S50000x512 : Shape := ⟨2, ![50000, 512]⟩
abbrev S50000 : Shape := ⟨1, ![50000]⟩
abbrev S512 : Shape := ⟨1, ![512]⟩
abbrev S512x512 : Shape := ⟨2, ![512, 512]⟩
abbrev S10x1x5000 : Shape := ⟨3, ![10, 1, 5000]⟩
abbrev S1x512 : Shape := ⟨2, ![1, 512]⟩
abbrev S256x1 : Shape := ⟨2, ![256, 1]⟩
abbrev S1x1x5000 : Shape := ⟨3, ![1, 1, 5000]⟩
abbrev S5000x512 : Shape := ⟨2, ![5000, 512]⟩
abbrev S1x5000 : Shape := ⟨2, ![1, 5000]⟩
abbrev S256x5000 : Shape := ⟨2, ![256, 5000]⟩
abbrev S256 : Shape := ⟨1, ![256]⟩
abbrev S5000 : Shape := ⟨1, ![5000]⟩
abbrev S_ : Shape := ⟨0, ![]⟩
abbrev S176 : Shape := ⟨1, ![176]⟩
abbrev S50176 : Shape := ⟨1, ![50176]⟩
abbrev S1568 : Shape := ⟨1, ![1568]⟩
abbrev S16 : Shape := ⟨1, ![16]⟩
abbrev S256x512 : Shape := ⟨2, ![256, 512]⟩

abbrev nBuf : Table → Nat
  | .hbm => 24
  | .local .tc .vmem => 23
  | .local .scVector .vmem => 5
  | _ => 0

abbrev bufTy : (tb : Table) → Fin (nBuf tb) → BufTy
  | .hbm, ⟨0, _⟩ => ⟨S50000x512, .f32⟩
  | .hbm, ⟨1, _⟩ => ⟨S50000, .i32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S10x1x5000, .i32⟩
  | .hbm, ⟨6, _⟩ => ⟨S1x512, .f32⟩
  | .hbm, ⟨7, _⟩ => ⟨S10x1x5000, .f32⟩
  | .hbm, ⟨8, _⟩ => ⟨S256x1, .f32⟩
  | .hbm, ⟨9, _⟩ => ⟨S256x1, .f32⟩
  | .hbm, ⟨10, _⟩ => ⟨S50000x512, .bf16⟩
  | .hbm, ⟨11, _⟩ => ⟨S50000, .f32⟩
  | .hbm, ⟨12, _⟩ => ⟨S_, .f32⟩
  | .hbm, ⟨13, _⟩ => ⟨S176, .f32⟩
  | .hbm, ⟨14, _⟩ => ⟨S50176, .f32⟩
  | .hbm, ⟨15, _⟩ => ⟨S_, .i32⟩
  | .hbm, ⟨16, _⟩ => ⟨S176, .i32⟩
  | .hbm, ⟨17, _⟩ => ⟨S50176, .i32⟩
  | .hbm, ⟨18, _⟩ => ⟨S256, .f32⟩
  | .hbm, ⟨19, _⟩ => ⟨S256, .f32⟩
  | .hbm, ⟨20, _⟩ => ⟨S50176, .f32⟩
  | .hbm, ⟨21, _⟩ => ⟨S50000, .f32⟩
  | .hbm, ⟨22, _⟩ => ⟨S10x1x5000, .f32⟩
  | .hbm, ⟨23, _⟩ => ⟨S256x512, .f32⟩
  | .local .tc .vmem, ⟨0, _⟩ => ⟨S1x1x5000, .i32⟩
  | .local .tc .vmem, ⟨1, _⟩ => ⟨S1x1x5000, .i32⟩
  | .local .tc .vmem, ⟨2, _⟩ => ⟨S5000x512, .f32⟩
  | .local .tc .vmem, ⟨3, _⟩ => ⟨S5000x512, .f32⟩
  | .local .tc .vmem, ⟨4, _⟩ => ⟨S1x512, .f32⟩
  | .local .tc .vmem, ⟨5, _⟩ => ⟨S512x512, .f32⟩
  | .local .tc .vmem, ⟨6, _⟩ => ⟨S1x1x5000, .f32⟩
  | .local .tc .vmem, ⟨7, _⟩ => ⟨S1x1x5000, .f32⟩
  | .local .tc .vmem, ⟨8, _⟩ => ⟨S256x1, .f32⟩
  | .local .tc .vmem, ⟨9, _⟩ => ⟨S256x1, .f32⟩
  | .local .tc .vmem, ⟨10, _⟩ => ⟨S5000x512, .bf16⟩
  | .local .tc .vmem, ⟨11, _⟩ => ⟨S5000x512, .bf16⟩
  | .local .tc .vmem, ⟨12, _⟩ => ⟨S256x1, .f32⟩
  | .local .tc .vmem, ⟨13, _⟩ => ⟨S256x1, .f32⟩
  | .local .tc .vmem, ⟨14, _⟩ => ⟨S1x1x5000, .f32⟩
  | .local .tc .vmem, ⟨15, _⟩ => ⟨S1x1x5000, .f32⟩
  | .local .tc .vmem, ⟨16, _⟩ => ⟨S1x1x5000, .i32⟩
  | .local .tc .vmem, ⟨17, _⟩ => ⟨S1x1x5000, .i32⟩
  | .local .tc .vmem, ⟨18, _⟩ => ⟨S5000x512, .bf16⟩
  | .local .tc .vmem, ⟨19, _⟩ => ⟨S5000x512, .bf16⟩
  | .local .tc .vmem, ⟨20, _⟩ => ⟨S512x512, .f32⟩
  | .local .tc .vmem, ⟨21, _⟩ => ⟨S256x512, .f32⟩
  | .local .tc .vmem, ⟨22, _⟩ => ⟨S256x512, .f32⟩
  | .local .scVector .vmem, ⟨0, _⟩ => ⟨S1568, .f32⟩
  | .local .scVector .vmem, ⟨1, _⟩ => ⟨S1568, .i32⟩
  | .local .scVector .vmem, ⟨2, _⟩ => ⟨S1568, .f32⟩
  | .local .scVector .vmem, ⟨3, _⟩ => ⟨S256, .f32⟩
  | .local .scVector .vmem, ⟨4, _⟩ => ⟨S256, .f32⟩
  | _, _ => ⟨S50000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v5_scv : Ref sig .scVector := ⟨.hbm, 14, rfl⟩
abbrev main_v7_scv : Ref sig .scVector := ⟨.hbm, 17, rfl⟩
abbrev main_v8_scv : Ref sig .scVector := ⟨.hbm, 18, rfl⟩
abbrev main_v9_scv : Ref sig .scVector := ⟨.hbm, 19, rfl⟩
abbrev main_v10_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_scratch0 : Ref sig .tc := ⟨.vmem, 22, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v56 : BitVec 1 := Scalar.cmpi .eq arg0 c9_i32
  let v57 : BitVec 32 := Scalar.extui v56
  let c0_i32_33 : BitVec 32 := 0#32
  let v58 : BitVec 1 := Scalar.cmpi .ne v57 c0_i32_33
  v58

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x5000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x5000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1568_i32 : BitVec 32 := 1568#32
  let v2 : BitVec 32 := Scalar.muli v1 c1568_i32
  ![v2.toNat]
@[reducible] def k1_t1_loop : Scf.Loop 32 :=
  let c0_i32_0 : BitVec 32 := 0#32
  let c98_i32 : BitVec 32 := 98#32
  let v3 : BitVec 32 := Scalar.addi c0_i32_0 c98_i32
  let c1_i32 : BitVec 32 := 1#32
  ⟨c0_i32_0, v3, c1_i32⟩
def k1_off2 (k1_t1 : Fin k1_t1_loop.trips) : Fin 1 → Nat :=
  let c0_i32_0 : BitVec 32 := 0#32
  let c1_i32 : BitVec 32 := 1#32
  let arg12 : BitVec 32 := Scf.iv c0_i32_0 c1_i32 k1_t1
  let c16_i32 : BitVec 32 := 16#32
  let v4 : BitVec 32 := Scalar.muli arg12 c16_i32
  let v5 : Index := Scalar.indexCast v4
  ![v5.toNat]

def k1_chk1 (v9 : IVec S16 32) : Prop :=
  (∀ a x, ((![v9] : Fin 1 → IVec S16 32) a x).toNat < S256.size a) ∧
  (∀ a x, ((![v9] : Fin 1 → IVec S16 32) a x).toNat < S256.size a)
theorem k1_idx1_inb : ∀ (v9 : IVec S16 32) (k1_hw1 : k1_chk1 v9), ∀ a x, ((![v9] : Fin 1 → IVec S16 32) a x).toNat < S256.size a := fun v9 k1_hw1 => k1_hw1.1
theorem k1_idx2_inb : ∀ (v9 : IVec S16 32) (k1_hw1 : k1_chk1 v9), ∀ a x, ((![v9] : Fin 1 → IVec S16 32) a x).toNat < S256.size a := fun v9 k1_hw1 => k1_hw1.2
def k1_off3 (k1_t1 : Fin k1_t1_loop.trips) : Fin 1 → Nat :=
  let c0_i32_0 : BitVec 32 := 0#32
  let c1_i32 : BitVec 32 := 1#32
  let arg12 : BitVec 32 := Scf.iv c0_i32_0 c1_i32 k1_t1
  let c16_i32_3 : BitVec 32 := 16#32
  let v17 : BitVec 32 := Scalar.muli arg12 c16_i32_3
  let v18 : Index := Scalar.indexCast v17
  ![v18.toNat]
abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v23 : BitVec 1 := Scalar.cmpi .eq arg0 c9_i32
  let v24 : BitVec 32 := Scalar.extui v23
  let c0_i32_13 : BitVec 32 := 0#32
  let v25 : BitVec 1 := Scalar.cmpi .ne v24 c0_i32_13
  v25

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1x5000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x5000 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x512 : Shape := ⟨2, ![50000, 512]⟩
abbrev S50000 : Shape := ⟨1, ![50000]⟩
abbrev S512 : Shape := ⟨1, ![512]⟩
abbrev S512x512 : Shape := ⟨2, ![512, 512]⟩
abbrev S256 : Shape := ⟨1, ![256]⟩
abbrev S256x1 : Shape := ⟨2, ![256, 1]⟩
abbrev S1x50000 : Shape := ⟨2, ![1, 50000]⟩
abbrev S256x50000 : Shape := ⟨2, ![256, 50000]⟩
abbrev S_ : Shape := ⟨0, ![]⟩
abbrev S50000x1 : Shape := ⟨2, ![50000, 1]⟩
abbrev S256x512 : Shape := ⟨2, ![256, 512]⟩

abbrev nBuf : Space → Nat
  | .hbm => 67
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S50000x512, .f32⟩
  | .hbm, ⟨7, _⟩ => ⟨S512x512, .f32⟩
  | .hbm, ⟨8, _⟩ => ⟨S50000x512, .f32⟩
  | .hbm, ⟨9, _⟩ => ⟨S50000, .f32⟩
  | .hbm, ⟨10, _⟩ => ⟨S256, .i32⟩
  | .hbm, ⟨11, _⟩ => ⟨S256x1, .i32⟩
  | .hbm, ⟨12, _⟩ => ⟨S1x50000, .i32⟩
  | .hbm, ⟨13, _⟩ => ⟨S256x50000, .i32⟩
  | .hbm, ⟨14, _⟩ => ⟨S256x50000, .i32⟩
  | .hbm, ⟨15, _⟩ => ⟨S256x50000, .i1⟩
  | .hbm, ⟨16, _⟩ => ⟨S1x50000, .f32⟩
  | .hbm, ⟨17, _⟩ => ⟨S_, .f32⟩
  | .hbm, ⟨18, _⟩ => ⟨S_, .f32⟩
  | .hbm, ⟨19, _⟩ => ⟨S256x50000, .f32⟩
  | .hbm, ⟨20, _⟩ => ⟨S256x50000, .f32⟩
  | .hbm, ⟨21, _⟩ => ⟨S256x50000, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .i1⟩
  | .hbm, ⟨28, _⟩ => ⟨S_, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S_, .i32⟩
  | .hbm, ⟨33, _⟩ => ⟨S50000, .i32⟩
  | .hbm, ⟨34, _⟩ => ⟨S50000, .i1⟩
  | .hbm, ⟨35, _⟩ => ⟨S_, .i32⟩
  | .hbm, ⟨36, _⟩ => ⟨S50000, .i32⟩
  | .hbm, ⟨37, _⟩ => ⟨S50000, .i32⟩
  | .hbm, ⟨38, _⟩ => ⟨S50000, .i32⟩
  | .hbm, ⟨39, _⟩ => ⟨S50000x1, .i32⟩
  | .hbm, ⟨40, _⟩ => ⟨S50000, .f32⟩
  | .hbm, ⟨41, _⟩ => ⟨S50000, .f32⟩
  | .hbm, ⟨42, _⟩ => ⟨S50000, .f32⟩
  | .hbm, ⟨43, _⟩ => ⟨S_, .f32⟩
  | .hbm, ⟨44, _⟩ => ⟨S256, .f32⟩
  | .hbm, ⟨45, _⟩ => ⟨S50000x1, .i32⟩
  | .hbm, ⟨46, _⟩ => ⟨S256, .f32⟩
  | .hbm, ⟨47, _⟩ => ⟨S_, .i32⟩
  | .hbm, ⟨48, _⟩ => ⟨S50000, .i32⟩
  | .hbm, ⟨49, _⟩ => ⟨S50000, .i1⟩
  | .hbm, ⟨50, _⟩ => ⟨S_, .i32⟩
  | .hbm, ⟨51, _⟩ => ⟨S50000, .i32⟩
  | .hbm, ⟨52, _⟩ => ⟨S50000, .i32⟩
  | .hbm, ⟨53, _⟩ => ⟨S50000, .i32⟩
  | .hbm, ⟨54, _⟩ => ⟨S50000x1, .i32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x512, .f32⟩
  | .hbm, ⟨62, _⟩ => ⟨S50000x512, .f32⟩
  | .hbm, ⟨63, _⟩ => ⟨S_, .f32⟩
  | .hbm, ⟨64, _⟩ => ⟨S256x512, .f32⟩
  | .hbm, ⟨65, _⟩ => ⟨S50000x1, .i32⟩
  | .hbm, ⟨66, _⟩ => ⟨S256x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Proof.Base.lean ====
/-
  What the three kernels' proofs share: the program as the SparseCore launch sees it, the resource algebra (the
  launch's handshakes, the two pipelines' staging cells, the transfers' counters), the launch facts, and the state in
  which @main enters and leaves a TensorCore kernel.
-/
module

public import proofs.«01_k».proof.Defs
public import proofs.«01_k».proof.Proof.Gen.KernelIdeal.Launch
public import proofs.«01_k».proof.Proof.Gen.KernelIdeal.Points
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.VecWindow
public import Idealize.ShloMosaic.Lib.Pipeline.Regions
public import Idealize.ShloMosaic.Lib.Pipeline.FrameBody
public import Idealize.ShloMosaic.Lib.Ring
public import Idealize.ShloMosaic.Lib.WordCmp
public import Idealize.ShloMosaic.Lib.Claim
public import Idealize.ShloMosaic.Lib.Tactic

@[expose] public section

noncomputable section

namespace Cert.Seg

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels under the SparseCore launch: the kernels' and the two pipelines'. -/
abbrev ΛP : Labels := Pipeline.Sig Λ₀ (Fin 2) fun p => (pcfgs (F := F) p).Adm
/-- The one SparseCore call. -/
abbrev K : SparseCore.Cfg τ sig (ΛP (F := F)) 1 := sc (F := F)
/-- The definitions below the SparseCore launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and never scoped, and a SparseCore's own buffers are not shared by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The launch's handshakes; the pipelines' staging cells; both with the transfers' counters. -/
abbrev UH : Type := URounds (GSem nD τ sig) ℕ
abbrev UP : Type := URounds (GSem nD τ sig) Unit
abbrev UU : Type := UH × (UP × Counters)

/-- The model the assertions speak of. -/
abbrev Mo (F : FTy → Type) : Type := MT nD τ sig (HIx 1) (Elt F) ℕ UU ℕ

def EH : Emb UH (Mo F) :=
  (Emb.inl : Emb UH UU).trans (uEmb (nD := nD) (sig := sig) (Ix := HIx 1) (Val := Elt F) (Name := ℕ) (U := UU) (Lvl := ℕ)).toEmb
def EP : Emb UP (Mo F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (Mo F)).LandsIn (upEmb : UEmb _ (Mo F)) := by unfold EH; infer_instance
instance EP_landsIn : (EP : Emb UP (Mo F)).LandsIn (upEmb : UEmb _ (Mo F)) := by unfold EP; infer_instance

/-! ## The pipelines -/

/-- No pipeline prefetches a table: the admissible prefetch is the empty one. -/
abbrev adm : (p : Fin 2) → (pcfgs (F := F) p).Adm := fun p => (cfgs p).toPCfg_adm

abbrev pinned : Fin 2 → Pipeline.Cfg sig Λ₀ := Pipeline.pin (pcfgs (F := F)) adm

/-- The staging cells of the two pipelines are pairwise distinct. -/
theorem cells_inj : Function.Injective (Pipeline.cellOf (nD := nD) (τ := τ) (pinned (F := F))) := cellOf_inj

/-- The resources one pipeline runs on, once: its staging cells' and its launch tokens. -/
def fuel (p : Fin 2) (c : Dev nD) : sProp (Mo F) :=
  iprop(Pipeline.cellsGhost (pinned (F := F)) EP p c ∗ Pipeline.toksInit (pinned (F := F)) EP p c)

/-- A proof data for a pipeline a region does not run: anything. -/
def anyDat [FloatOps F] {cfg : Pipeline.Cfg sig Λ₀} (c : Dev nD) : Pipeline.Dat τ (Elt F) (HIx 1) ℕ UU ℕ cfg c where
  A _ := fun _ => Classical.arbitrary _
  after _ _ := fun _ => Classical.arbitrary _
  Φ _ := BI.emp
  q _ := fullShare
  owed _ := 0

/-! ## The state between kernels -/

/-- What the TensorCore owes between kernels: the tallies `O`, its recorded waits at levels at most `b`. -/
def debt (O : CellTallies nD τ sig (HIx 1)) (b : ℕ) (c : Dev nD) : sProp (Mo F) :=
  iprop(∃ W, ⌜(K (F := F)).WBelow (c.tc : Thread nD τ) W b⌝ ∗ owes (c.tc : Thread nD τ) O W)

/-- The waits a pipeline's data may find recorded when it starts: those at levels at most `b`. -/
def lowWaits (b : ℕ) (c : Dev nD) : Set (SemLoc sig × HIx 1) := {p | (K (F := F)).lev ((c.tc : Thread nD τ), p.1) p.2 ≤ b}

/-- The TensorCore's unscoped buffers, as device references. -/
def ucRefs : Finset (DevRef τ sig) := (StableHlo.tcRefs τ sig).filter fun b => ¬ b.isScoped

/-- The unscoped buffers at a valuation are those references held at it. -/
theorem unscoped_held (c : Dev nD) (W : Valuation τ sig (Elt F)) :
    (unscopedBufs c (fun b => W b) : sProp (Mo F)) = StableHlo.held (c.tc : Thread nD τ) ucRefs W := by
  unfold unscopedBufs StableHlo.held ucRefs StableHlo.tcRefs
  rw [Finset.filter_map, bigSep_map]
  rfl

end Cert.Seg

end
-- ==== Proof.Stats.lean ====
/-
  The statistics kernel (pipeline 0 of @main): what one grid point does to its buffers, the running maximum and sum
  point by point, and its region over the state between kernels.
-/
module

public import proofs.«01_k».proof.Proof.Base

@[expose] public section

noncomputable section

namespace Cert.Seg.Stats

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The body's first branch is taken: this is the grid's first point. -/
abbrev atFirst (i : grid0.Coords) : Prop :=
  (Scalar.cmpi .ne (Scalar.extui (Scalar.cmpi .eq (BitVec.ofNat 32 (i 0).val) 0#32)) 0#32) = 1#1
/-- The body's second branch is taken: this is the grid's last point. -/
abbrev atLast (i : grid0.Coords) : Prop := k0_cond2 i = 1#1

/-- The running maxima after a block with rows `x`, segment ids `ids`, from the maxima `mO` before it. -/
def mStep (x : Vec F S5000x512 .f32) (ids : Vec F S1x1x5000 .i32) (wk : Vec F S512x512 .f32) (q : Vec F S1x512 .f32) (mO : Vec F S256x1 .f32) : Vec F S256x1 .f32 :=
  k0_pay2 (k0_pay10 x ids wk q mO)
/-- The running sums after the block, from the maxima `mO` and the sums `sO` before it. -/
def sStep (x : Vec F S5000x512 .f32) (ids : Vec F S1x1x5000 .i32) (wk : Vec F S512x512 .f32) (q : Vec F S1x512 .f32) (mO sO : Vec F S256x1 .f32) : Vec F S256x1 .f32 :=
  k0_pay1 (k0_pay7 x wk q) (k0_pay9 (F := F) ids) (k0_pay10 x ids wk q mO) (k0_pay11 x ids wk q mO) (k0_pay12 x ids wk q mO) (Scalar.ofBits .f32 0x00000000#32) sO

set_option maxHeartbeats 4000000 in
/-- ONE POINT. From the windows' buffers and the two running arrays at given contents, the body leaves the inputs' as
    they were, the scores' and the rounded rows' buffers at the block's, the running arrays one step further (from
    their initial values at the first point), and the two results' buffers written at the last point only. -/
theorem body_run (c : Dev nD) (i : grid0.Coords) (M1 : Memref sig .tc .vmem S1x1x5000 .i32) (h1 : M1.IsWhole) (M2 : Memref sig .tc .vmem S5000x512 .f32) (h2 : M2.IsWhole)
    (M3 : Memref sig .tc .vmem S1x512 .f32) (h3 : M3.IsWhole) (M4 : Memref sig .tc .vmem S512x512 .f32) (h4 : M4.IsWhole)
    (M5 : Memref sig .tc .vmem S1x1x5000 .f32) (h5 : M5.IsWhole) (M6 : Memref sig .tc .vmem S256x1 .f32) (h6 : M6.IsWhole)
    (M7 : Memref sig .tc .vmem S256x1 .f32) (h7 : M7.IsWhole) (M8 : Memref sig .tc .vmem S5000x512 .bf16) (h8 : M8.IsWhole)
    (M9 : Memref sig .tc .vmem S256x1 .f32) (h9 : M9.IsWhole) (M10 : Memref sig .tc .vmem S256x1 .f32) (h10 : M10.IsWhole)

    (x1 : Vec F S1x1x5000 .i32) (x2 : Vec F S5000x512 .f32) (x3 : Vec F S1x512 .f32) (x4 : Vec F S512x512 .f32)
    (y5 : Vec F S1x1x5000 .f32) (y6 y7 : Vec F S256x1 .f32) (y8 : Vec F S5000x512 .bf16) (a s a' s' : Vec F S256x1 .f32)
    (hb : atFirst i → a' = k0_pay4 ∧ s' = k0_pay5) (hb' : ¬ atFirst i → a' = a ∧ s' = s) (Q : PUnit → sProp (Mo F)) :
    iprop(owns (c : Thread nD τ) M1 fullShare x1
        ∗ owns (c : Thread nD τ) M2 fullShare x2
        ∗ owns (c : Thread nD τ) M3 fullShare x3
        ∗ owns (c : Thread nD τ) M4 fullShare x4
        ∗ owns (c : Thread nD τ) M5 fullShare y5
        ∗ owns (c : Thread nD τ) M6 fullShare y6
        ∗ owns (c : Thread nD τ) M7 fullShare y7
        ∗ owns (c : Thread nD τ) M8 fullShare y8
        ∗ owns (c : Thread nD τ) M9 fullShare a
        ∗ owns (c : Thread nD τ) M10 fullShare s
        ∗ (iprop(owns (c : Thread nD τ) M1 fullShare x1
          ∗ owns (c : Thread nD τ) M2 fullShare x2
          ∗ owns (c : Thread nD τ) M3 fullShare x3
          ∗ owns (c : Thread nD τ) M4 fullShare x4
          ∗ owns (c : Thread nD τ) M5 fullShare (k0_pay8 x2 x4 x3)
          ∗ owns (c : Thread nD τ) M6 fullShare (if atLast i then k0_pay3 (mStep x2 x1 x4 x3 a') else y6)
          ∗ owns (c : Thread nD τ) M7 fullShare (if atLast i then sStep x2 x1 x4 x3 a' s' else y7)
          ∗ owns (c : Thread nD τ) M8 fullShare (k0_pay6 x2)
          ∗ owns (c : Thread nD τ) M9 fullShare (mStep x2 x1 x4 x3 a')
          ∗ owns (c : Thread nD τ) M10 fullShare (sStep x2 x1 x4 x3 a' s')) -∗ Q ⟨⟩))
      ⊢ wp frame (wpE (defs₀ (F := F)) 𝒱₀ c none) Set.univ (cc0__stats_body i M1 h1 M2 h2 M3 h3 M4 h4 M5 h5 M6 h6 M7 h7 M8 h8 M9 h9 M10 h10) Q := by
  by_cases hc0 : atFirst i
  case' pos => obtain ⟨rfl, rfl⟩ := hb hc0
  case' neg => obtain ⟨rfl, rfl⟩ := hb' hc0
  all_goals by_cases hc1 : atLast i
  all_goals
    simp only [cc0__stats_body_eq_skeleton]; unfold cc0__stats_body_skel
    simp only [k0_part1_eq_skeleton, hc1, if_true, if_false]; unfold owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hk⟩
    subst e1; subst e2; subst e3; subst e4; subst e5; subst e6; subst e7; subst e8; subst e9; subst e10
    sl_exec (disch := first | sl_exact hc0 | sl_exact hc1)
    sl_step
    iapply Hk
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    isplitl [H5]
    · iexists _; isplitr; swap; (· iexact H5); ipureintro
      sl_unfold_run_names
      try unfold View.readCov
      first
        | rfl
        | (first | rw [if_pos hc1] | rw [if_neg hc1] | skip
           rw [View.read_writes_full (s := S1x1x5000)]
           try simp only [View.readAt_writes_full (s := S256x1)]
           simp only [View.readAt_full (s := S256x1), View.readAt_full (s := S5000x512), View.readAt_full (s := S1x1x5000), View.readAt_full (s := S512x512), View.readAt_full (s := S1x512)]
           try rfl)
    isplitl [H6]
    · iexists _; isplitr; swap; (· iexact H6); ipureintro
      sl_unfold_run_names
      try unfold View.readCov
      first
        | rfl
        | (first | rw [if_pos hc1] | rw [if_neg hc1] | skip
           rw [View.read_writes_full (s := S256x1)]
           try simp only [View.readAt_writes_full (s := S256x1)]
           simp only [View.readAt_full (s := S256x1), View.readAt_full (s := S5000x512), View.readAt_full (s := S1x1x5000), View.readAt_full (s := S512x512), View.readAt_full (s := S1x512)]
           try rfl)
    isplitl [H7]
    · iexists _; isplitr; swap; (· iexact H7); ipureintro
      sl_unfold_run_names
      try unfold View.readCov
      first
        | rfl
        | (first | rw [if_pos hc1] | rw [if_neg hc1] | skip
           rw [View.read_writes_full (s := S256x1)]
           try simp only [View.readAt_writes_full (s := S256x1)]
           simp only [View.readAt_full (s := S256x1), View.readAt_full (s := S5000x512), View.readAt_full (s := S1x1x5000), View.readAt_full (s := S512x512), View.readAt_full (s := S1x512)]
           try rfl)
    isplitl [H8]
    · iexists _; isplitr; swap; (· iexact H8); ipureintro
      sl_unfold_run_names
      try unfold View.readCov
      first
        | rfl
        | (first | rw [if_pos hc1] | rw [if_neg hc1] | skip
           rw [View.read_writes_full (s := S5000x512)]
           try simp only [View.readAt_writes_full (s := S256x1)]
           simp only [View.readAt_full (s := S256x1), View.readAt_full (s := S5000x512), View.readAt_full (s := S1x1x5000), View.readAt_full (s := S512x512), View.readAt_full (s := S1x512)]
           try rfl)
    isplitl [H9]
    · iexists _; isplitr; swap; (· iexact H9); ipureintro
      sl_unfold_run_names
      try unfold View.readCov
      first
        | rfl
        | (first | rw [if_pos hc1] | rw [if_neg hc1] | skip
           rw [View.read_writes_full (s := S256x1)]
           try simp only [View.readAt_writes_full (s := S256x1)]
           simp only [View.readAt_full (s := S256x1), View.readAt_full (s := S5000x512), View.readAt_full (s := S1x1x5000), View.readAt_full (s := S512x512), View.readAt_full (s := S1x512)]
           try rfl)
    iexists _; isplitr; swap; (· iexact H10); ipureintro
    sl_unfold_run_names
    try unfold View.readCov
    first
      | rfl
      | (first | rw [if_pos hc1] | rw [if_neg hc1] | skip
         rw [View.read_writes_full (s := S256x1)]
         try simp only [View.readAt_writes_full (s := S256x1)]
         simp only [View.readAt_full (s := S256x1), View.readAt_full (s := S5000x512), View.readAt_full (s := S1x1x5000), View.readAt_full (s := S512x512), View.readAt_full (s := S1x512)]
         try rfl)

/-! ## The running maxima and sums, point by point -/

variable (V : (c : Dev nD) → (b : Ref sig .tc) → Buf (Elt F) ((c : Thread nD τ).loc b))

/-- Window `w`'s block at point `t`: its array, as the region finds it, read through the block's view. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running maxima and sums before point `n`: their initial values, then one step per point. -/
def run (c : Dev nD) : ℕ → Vec F S256x1 .f32 × Vec F S256x1 .f32
  | 0 => (k0_pay4, k0_pay5)
  | n + 1 =>
    if h : n < cfg0.N then
      (mStep (blk V c 1 ⟨n, h⟩) (blk V c 0 ⟨n, h⟩) (blk V c 3 ⟨n, h⟩) (blk V c 2 ⟨n, h⟩) (run c n).1,
        sStep (blk V c 1 ⟨n, h⟩) (blk V c 0 ⟨n, h⟩) (blk V c 3 ⟨n, h⟩) (blk V c 2 ⟨n, h⟩) (run c n).1 (run c n).2)
    else run c n

/-- The buffers of the running maxima and of the running sums. -/
abbrev mxM : Memref sig .tc .vmem S256x1 .f32 := Memref.whole cc0_scratch0
abbrev smM : Memref sig .tc .vmem S256x1 .f32 := Memref.whole cc0_scratch1

/-- The two running buffers before point `n`: at anything before the first, at `run` after. -/
def held (c : Dev nD) (n : ℕ) : sProp (Mo F) :=
  iprop(∃ a s, ⌜n ≠ 0 → a = (run V c n).1 ∧ s = (run V c n).2⌝ ∗ owns (c : Thread nD τ) mxM fullShare a ∗ owns (c : Thread nD τ) smM fullShare s)

/-- The scoped buffers this kernel neither stages nor computes in. -/
def others (c : Dev nD) : sProp (Mo F) :=
  Pipeline.scopedRestBut (Ix := HIx 1) (Name := ℕ) (U := UU) (Lvl := ℕ) (Val := Elt F) spec0 c [cc0_scratch0, cc0_scratch1]

theorem rest_eq (c : Dev nD) :
    (Pipeline.scopedRest (Ix := HIx 1) (Name := ℕ) (U := UU) (Lvl := ℕ) (Val := Elt F) spec0 c : sProp (Mo F))
      = iprop((∃ a, owns (c : Thread nD τ) mxM fullShare a) ∗ (∃ s, owns (c : Thread nD τ) smM fullShare s) ∗ others c) := by
  rw [Pipeline.scopedRest_split_of_list spec0 c [cc0_scratch0, cc0_scratch1] (by decide) (by decide)]
  simp only [mxM, smM, owns_whole]
  exact Idealize.SL.BI.equiv_iff.mp ⟨Idealize.SL.BI.sep_assoc, Idealize.SL.BI.sep_assoc'⟩

variable (O : CellTallies nD τ sig (HIx 1)) (b : ℕ)

/-- The region's proof data, entered at `V` with `O` owed and the waits recorded so far at levels at most `b`. -/
def dat (c : Dev nD) : Dat τ (Elt F) (HIx 1) ℕ UU ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => (k0_pay8 (blk V c 1 t) (blk V c 3 t) (blk V c 2 t) : Vec F S1x1x5000 .f32)
    | ⟨5, _⟩ => (k0_pay3 (run V c (t.val + 1)).1 : Vec F S256x1 .f32)
    | ⟨6, _⟩ => ((run V c (t.val + 1)).2 : Vec F S256x1 .f32)
    | ⟨7, _⟩ => (k0_pay6 (blk V c 1 t) : Vec F S5000x512 .bf16)
  Φ t := iprop(held V c t.val ∗ others c)
  q _ := fullShare
  owed _ := O
  recorded _ := lowWaits (F := F) b c

/-- An input's buffer holds its block when the body runs. -/
theorem before_in (c : Dev nD) (t : Fin cfg0.N) :
    (∀ d, (dat V O b c).before 0 t d = blk V c 0 t) ∧ (∀ d, (dat V O b c).before 1 t d = blk V c 1 t)
      ∧ (∀ d, (dat V O b c).before 2 t d = blk V c 2 t) ∧ (∀ d, (dat V O b c).before 3 t d = blk V c 3 t) := by
  refine ⟨fun d => ?_, fun d => ?_, fun d => ?_, fun d => ?_⟩
  · exact ((dat V O b c).before_in_eq_fetched 0 rfl (fun _ => rfl) (fun _ _ _ => rfl) (fun _ => rfl) t d).trans rfl
  · exact ((dat V O b c).before_in_eq_fetched 1 rfl (fun _ => rfl) (fun _ _ _ => rfl) (fun _ => rfl) t d).trans rfl
  · exact ((dat V O b c).before_in_eq_fetched 2 rfl (fun _ => rfl) (fun _ _ _ => rfl) (fun _ => rfl) t d).trans rfl
  · exact ((dat V O b c).before_in_eq_fetched 3 rfl (fun _ => rfl) (fun _ _ _ => rfl) (fun _ => rfl) t d).trans rfl

/-- The first branch is taken at point 0 alone, the second at point 9 alone. -/
theorem first_iff (t : Fin cfg0.N) : atFirst (grid0.coords t) ↔ t.val = 0 := by
  have ht : t.val < 10 := Nat.lt_of_lt_of_eq t.isLt N_0
  have e : (grid0.coords t 0).val = t.val / 1 % 10 := Pipeline.Grid.coords_val t 0 (by decide) rfl
  have e' : (grid0.coords t 0).val = t.val := by omega
  simp only [atFirst, e']
  word_cmp
theorem last_iff (t : Fin cfg0.N) : atLast (grid0.coords t) ↔ t.val = 9 := by
  have ht : t.val < 10 := Nat.lt_of_lt_of_eq t.isLt N_0
  have e : (grid0.coords t 0).val = t.val / 1 % 10 := Pipeline.Grid.coords_val t 0 (by decide) rfl
  have e' : (grid0.coords t 0).val = t.val := by omega
  simp only [atLast, k0_cond2, e']
  word_cmp

/-- Off the last point the two results' windows are idle and are not written back; at the last they are live. -/
theorem idle_out (t : Fin cfg0.N) : (¬ atLast (grid0.coords t) → (cfg0.idle 5 (grid0.coords t) = true ∧ (cfg0.win 5).flush t = false)
      ∧ cfg0.idle 6 (grid0.coords t) = true ∧ (cfg0.win 6).flush t = false)
    ∧ (atLast (grid0.coords t) → cfg0.idle 5 (grid0.coords t) = false ∧ cfg0.idle 6 (grid0.coords t) = false) := by
  revert t; decide +kernel

/-! ## The body obligation -/

/-- One step of the running pair at a point of the grid. -/
theorem run_succ (c : Dev nD) (t : Fin cfg0.N) :
    run V c (t.val + 1) = (mStep (blk V c 1 t) (blk V c 0 t) (blk V c 3 t) (blk V c 2 t) (run V c t.val).1,
      sStep (blk V c 1 t) (blk V c 0 t) (blk V c 3 t) (blk V c 2 t) (run V c t.val).1 (run V c t.val).2) := by
  show (if h : t.val < cfg0.N then _ else _) = _
  rw [dif_pos t.isLt]

/-- A result's buffer after a point: the result at the last, anything before. -/
theorem out_after5 (c : Dev nD) (t : Fin cfg0.N) (d) :
    (owns (c : Thread nD τ) (st0_5 t) fullShare (if atLast (grid0.coords t) then k0_pay3 (run V c (t.val + 1)).1 else (dat V O b c).before 5 t d) : sProp (Mo F))
      ⊢ (dat V O b c).leavesExact 5 t := by
  by_cases h : atLast (grid0.coords t)
  · rw [if_pos h]
    unfold Dat.leavesExact
    rw [show cfg0.idle 5 (cfg0.grid.coords t) = false from ((idle_out t).2 h).1]
    exact Entails.refl _
  · rw [if_neg h, Dat.leavesExact_idle (dat V O b c) 5 t ((idle_out t).1 h).1.1 ((idle_out t).1 h).1.2]
    iintro H; iexists d; iexact H
theorem out_after6 (c : Dev nD) (t : Fin cfg0.N) (d) :
    (owns (c : Thread nD τ) (st0_6 t) fullShare (if atLast (grid0.coords t) then (run V c (t.val + 1)).2 else (dat V O b c).before 6 t d) : sProp (Mo F))
      ⊢ (dat V O b c).leavesExact 6 t := by
  by_cases h : atLast (grid0.coords t)
  · rw [if_pos h]
    unfold Dat.leavesExact
    rw [show cfg0.idle 6 (cfg0.grid.coords t) = false from ((idle_out t).2 h).2]
    exact Entails.refl _
  · rw [if_neg h, Dat.leavesExact_idle (dat V O b c) 6 t ((idle_out t).1 h).2.1 ((idle_out t).1 h).2.2]
    iintro H; iexists d; iexact H

set_option maxHeartbeats 1000000 in
/-- The body at a point, from the invariant and the windows' buffers before it to those after it. -/
theorem point (c : Dev nD) (t : Fin cfg0.N) :
    iprop((dat V O b c).Φ t.castSucc ∗ (dat V O b c).owesAt none t.castSucc
        ∗ (∃ d, owns (c : Thread nD τ) (st0_0 t) fullShare ((dat V O b c).before 0 t d))
        ∗ (∃ d, owns (c : Thread nD τ) (st0_1 t) fullShare ((dat V O b c).before 1 t d))
        ∗ (∃ d, owns (c : Thread nD τ) (st0_2 t) fullShare ((dat V O b c).before 2 t d))
        ∗ (∃ d, owns (c : Thread nD τ) (st0_3 t) fullShare ((dat V O b c).before 3 t d))
        ∗ (∃ d, owns (c : Thread nD τ) (st0_4 t) fullShare ((dat V O b c).before 4 t d))
        ∗ (∃ d, owns (c : Thread nD τ) (st0_5 t) fullShare ((dat V O b c).before 5 t d))
        ∗ (∃ d, owns (c : Thread nD τ) (st0_6 t) fullShare ((dat V O b c).before 6 t d))
        ∗ (∃ d, owns (c : Thread nD τ) (st0_7 t) fullShare ((dat V O b c).before 7 t d)))
      ⊢ wp frame (wpE (defs₀ (F := F)) 𝒱₀ c none) Set.univ (bodyAt0 t) fun _ =>
        iprop((dat V O b c).Φ t.succ ∗ (dat V O b c).owesAt none t.succ
          ∗ (dat V O b c).leavesExact 0 t
          ∗ (dat V O b c).leavesExact 1 t
          ∗ (dat V O b c).leavesExact 2 t
          ∗ (dat V O b c).leavesExact 3 t
          ∗ (dat V O b c).leavesExact 4 t
          ∗ (dat V O b c).leavesExact 5 t
          ∗ (dat V O b c).leavesExact 6 t
          ∗ (dat V O b c).leavesExact 7 t) := by
  obtain ⟨b0, b1, b2, b3⟩ := before_in V O b c t
  simp only [b0, b1, b2, b3]
  rw [show (dat V O b c).owesAt none t.succ = (dat V O b c).owesAt none t.castSucc from rfl,
    show (dat V O b c).Φ t.succ = iprop(held V c (t.val + 1) ∗ others c) from rfl,
    show (dat V O b c).Φ t.castSucc = iprop(held V c t.val ∗ others c) from
      Dat.Φ_castSucc (fun n _ => iprop(held V c n ∗ others c)) t]
  unfold held
  iintro ⟨⟨⟨%a, %s, %ha, HM, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ (blk V c 0 t) (blk V c 1 t) (blk V c 2 t) (blk V c 3 t)
    ((dat V O b c).before 4 t d4) ((dat V O b c).before 5 t d5) ((dat V O b c).before 6 t d6) ((dat V O b c).before 7 t d7)
    a s (run V c t.val).1 (run V c t.val).2
    (fun h => by rw [(first_iff t).mp h]; exact ⟨rfl, rfl⟩)
    (fun h => ⟨(ha fun h0 => h ((first_iff t).mpr h0)).1.symm, (ha fun h0 => h ((first_iff t).mpr h0)).2.symm⟩))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HM]; · iexact HM
  isplitl [HS]; · iexact HS
  rw [show mStep (blk V c 1 t) (blk V c 0 t) (blk V c 3 t) (blk V c 2 t) (run V c t.val).1 = (run V c (t.val + 1)).1 by rw [run_succ],
    show sStep (blk V c 1 t) (blk V c 0 t) (blk V c 3 t) (blk V c 2 t) (run V c t.val).1 (run V c t.val).2 = (run V c (t.val + 1)).2 by rw [run_succ]]
  iintro ⟨H0, H1, H2, H3, H4, H5, H6, H7, HM, HS⟩
  isplitl [HM HS Hr]
  · isplitl [HM HS]
    · iexists _, _; isplitr; swap; (· isplitl [HM] <;> iassumption); ipureintro; exact fun _ => ⟨rfl, rfl⟩
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iapply (out_after5 V O b c t d5); iexact H5
  isplitl [H6]; · iapply (out_after6 V O b c t d6); iexact H6
  iexact H7

/-- The body's row of the kernel table, at a point. -/
theorem row (t : Fin cfg0.N) : defs₀ (F := F) .tc cfg0.body (cfg0.bodyArgs t (cfg0.slots t)) = bodyAt0 t := rfl

theorem obligation (c : Dev nD) : BodyObligation (dat V O b c) (defs₀ (F := F)) 𝒱₀ none Set.univ := fun t => by
  rw [bigSep_W0, bigSep_W0, row]
  exact triple_restated (point V O b c t) rfl .rfl fun _ => .rfl

/-! ## The region -/

/-- The proof data of both pipelines, this entry running the statistics one. -/
def pdats : (p : Fin 2) → (c : Dev nD) → Dat τ (Elt F) (HIx 1) ℕ UU ℕ (pinned (F := F) p) c
  | ⟨0, _⟩ => fun c => dat V O b c
  | ⟨1, _⟩ => fun c => anyDat c

variable (V' : (c : Dev nD) → (b : Ref sig .tc) → Buf (Elt F) ((c : Thread nD τ).loc b)) (R : Dev nD → sProp (Mo F))

set_option backward.isDefEq.respectTransparency.types false in
/-- THE STATISTICS REGION: from the unscoped buffers at `V` to the same at `V'`, which has the four results' arrays at what
    the pipeline leaves in them and every other buffer as before. -/
def region (hO : ∀ g, O g none = 0) (hout4 : ∀ c, V' c main_v2_0 = (dat V O b c).arrAt 4 cfg0.N) (hout5 : ∀ c, V' c main_v2_1 = (dat V O b c).arrAt 5 cfg0.N)
    (hout6 : ∀ c, V' c main_v2_2 = (dat V O b c).arrAt 6 cfg0.N) (hout7 : ∀ c, V' c main_v2_3 = (dat V O b c).arrAt 7 cfg0.N)
    (hne : ∀ c (r : Ref sig .tc), r ≠ main_v2_0 → r ≠ main_v2_1 → r ≠ main_v2_2 → r ≠ main_v2_3 → V' c r = V c r) :
    Pipeline.RegionSeg (pcfgs (F := F)) adm (pdats V O b) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (obligation V O b c).loose
  hwaits c := Pipeline.cellsWaits_intro _ (pdats V O b) none 0 c fun w s t => (K (F := F)).mayWait_none _ hO
  pre c := iprop(unscopedBufs c (V c) ∗ R c ∗ debt O b c)
  post c := iprop(unscopedBufs c (V' c) ∗ R c ∗ debt O b c)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V O b) (launch0).win (launch0).arr_whole c
      ((pdats V O b 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold debt Pipeline.Dat.owesAt Pipeline.owesWithin
      icases HO with ⟨%W, %hW, HO⟩; iexists W
      isplitr; · ipureintro; exact fun p hp => Or.inl (hW p hp)
      iexact HO
    isplitr; · iempintro
    isplitl [Hrest] <;> iassumption
  hin c := by
    rw [show (pdats V O b 0 c).Φ 0 = iprop(held V c 0 ∗ others c) from rfl,
      show (Pipeline.scopedRest (Pipeline.pin (pcfgs (F := F)) adm 0).spec c : sProp (Mo F)) = _ from rest_eq c]
    unfold held
    iintro ⟨-, -, ⟨%a, Ha⟩, ⟨%s, Hs⟩, Hr⟩
    isplitl [Ha Hs]
    · iexists a, s; isplitr; · ipureintro; exact fun h => absurd rfl h
      isplitl [Ha] <;> iassumption
    iexact Hr
  hout c := by
    rw [Pipeline.ownSems0_none, show (Pipeline.scopedRest (Pipeline.pin (pcfgs (F := F)) adm 0).spec c : sProp (Mo F)) = _ from rest_eq c,
      show (pdats V O b 0 c).Φ (Fin.last _) = iprop(held V c cfg0.N ∗ others c) from rfl]
    unfold held
    iintro ⟨⟨%a, %s, -, Ha, Hs⟩, Hr⟩
    isplitr; · iempintro
    isplitr; · iempintro
    isplitl [Ha]; · iexists a; iexact Ha
    isplitl [Hs]; · iexists s; iexact Hs
    iexact Hr
  hexit c := by
    have hjoin := Pipeline.unscopedBufs_of_arrays (p := 0) (pcfgs (F := F)) adm (Ix := HIx 1) (Name := ℕ) (U := UU) (Lvl := ℕ) (launch0).win (launch0).arr_whole c
      (pdats V O b) ((pdats V O b 0 c).share_full fun _ => rfl) (V c) (V' c) ((pdats V O b 0 c).arrAt · cfg0.N)
      (fun w => by
        fin_cases w
        · exact ((pdats V O b 0 c).arrAt_in 0 rfl _).trans (hne c main_v0 (by decide) (by decide) (by decide) (by decide)).symm
        · exact ((pdats V O b 0 c).arrAt_in 1 rfl _).trans (hne c main_arg0 (by decide) (by decide) (by decide) (by decide)).symm
        · exact ((pdats V O b 0 c).arrAt_in 2 rfl _).trans (hne c main_v1 (by decide) (by decide) (by decide) (by decide)).symm
        · exact ((pdats V O b 0 c).arrAt_in 3 rfl _).trans (hne c main_arg3 (by decide) (by decide) (by decide) (by decide)).symm
        · exact (hout4 c).symm
        · exact (hout5 c).symm
        · exact (hout6 c).symm
        · exact (hout7 c).symm)
      (fun r hr => hne c r (fun h => hr (h ▸ Finset.mem_image.mpr ⟨4, Finset.mem_univ _, rfl⟩)) (fun h => hr (h ▸ Finset.mem_image.mpr ⟨5, Finset.mem_univ _, rfl⟩))
        (fun h => hr (h ▸ Finset.mem_image.mpr ⟨6, Finset.mem_univ _, rfl⟩)) fun h => hr (h ▸ Finset.mem_image.mpr ⟨7, Finset.mem_univ _, rfl⟩))
    iintro ⟨Ha, HO, -, Hrest, HR⟩
    imodintro
    isplitl [Ha Hrest]
    · iapply hjoin; isplitl [Ha] <;> iassumption
    isplitl [HR]; · iexact HR
    unfold debt Pipeline.Dat.owesAt Pipeline.owesWithin
    icases HO with ⟨%W, %hW, HO⟩; iexists W
    isplitr
    · ipureintro; intro p hp
      rcases hW hp with h | h
      · exact h
      · obtain ⟨w, s, rfl⟩ := h
        exact Nat.zero_le b
    iexact HO

end Cert.Seg.Stats

end
-- ==== Proof.Pool.lean ====
/-
  The pooling kernel (pipeline 1 of @main): what one grid point does to its buffers, the accumulator point by point,
  and its region over the state between kernels.
-/
module

public import proofs.«01_k».proof.Proof.Base

@[expose] public section

noncomputable section

namespace Cert.Seg.Pool

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The body's first branch is taken: this is the grid's first point. -/
abbrev atFirst (i : grid2.Coords) : Prop :=
  (Scalar.cmpi .ne (Scalar.extui (Scalar.cmpi .eq (BitVec.ofNat 32 (i 0).val) 0#32)) 0#32) = 1#1
/-- The body's second branch is taken: this is the grid's last point. -/
abbrev atLast (i : grid2.Coords) : Prop := k2_cond2 i = 1#1

set_option maxHeartbeats 1000000 in
/-- ONE POINT. From the inputs' buffers, the result's and the accumulator's at given contents, the body leaves the
    inputs' as they were, the accumulator one step further (from zero at the first point), and the result's buffer
    at the accumulator's product with `Wv` at the last point, untouched before it. -/
theorem body_run (c : Dev nD) (i : grid2.Coords) (M1 : Memref sig .tc .vmem S1x1x5000 .f32) (h1 : M1.IsWhole)
    (M2 : Memref sig .tc .vmem S1x1x5000 .i32) (h2 : M2.IsWhole) (M3 : Memref sig .tc .vmem S5000x512 .bf16) (h3 : M3.IsWhole)
    (M4 : Memref sig .tc .vmem S512x512 .f32) (h4 : M4.IsWhole) (M5 : Memref sig .tc .vmem S256x512 .f32) (h5 : M5.IsWhole)
    (M6 : Memref sig .tc .vmem S256x512 .f32) (h6 : M6.IsWhole)
    (x1 : Vec F S1x1x5000 .f32) (x2 : Vec F S1x1x5000 .i32) (x3 : Vec F S5000x512 .bf16) (x4 : Vec F S512x512 .f32)
    (y a b : Vec F S256x512 .f32) (hb : atFirst i → b = k2_pay1) (hb' : ¬ atFirst i → b = a) (Q : PUnit → sProp (Mo F)) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare y ∗ owns (c : Thread nD τ) M6 fullShare a
        ∗ (iprop(owns (c : Thread nD τ) M1 fullShare x1 ∗ owns (c : Thread nD τ) M2 fullShare x2 ∗ owns (c : Thread nD τ) M3 fullShare x3
          ∗ owns (c : Thread nD τ) M4 fullShare x4
          ∗ owns (c : Thread nD τ) M5 fullShare (if atLast i then k2_pay3 (k2_pay2 x3 x2 x1 b) x4 else y)
          ∗ owns (c : Thread nD τ) M6 fullShare (k2_pay2 x3 x2 x1 b)) -∗ Q ⟨⟩))
      ⊢ wp frame (wpE (defs₀ (F := F)) 𝒱₀ c none) Set.univ (cc2__pool_body i M1 h1 M2 h2 M3 h3 M4 h4 M5 h5 M6 h6) Q := by
  by_cases hc0 : atFirst i
  case' pos => obtain rfl := hb hc0
  case' neg => obtain rfl := hb' hc0
  all_goals by_cases hc1 : atLast i
  all_goals
    simp only [cc2__pool_body_eq_skeleton, hc1, if_true, if_false]; unfold cc2__pool_body_skel owns
    iintro ⟨⟨%f1, %e1, H1⟩, ⟨%f2, %e2, H2⟩, ⟨%f3, %e3, H3⟩, ⟨%f4, %e4, H4⟩, ⟨%f5, %e5, H5⟩, ⟨%f6, %e6, H6⟩, Hk⟩
    subst e1; subst e2; subst e3; subst e4; subst e5; subst e6
    sl_exec (disch := first | sl_exact hc0 | sl_exact hc1)
    sl_step
    iapply Hk
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    isplitl [H5]
    · iexists _; isplitr; swap; (· iexact H5); ipureintro
      first
        | (rw [if_pos hc1]
           sl_unfold_run_names
           unfold View.readCov
           rw [View.read_writes_full (s := S256x512), View.readAt_writes_full (s := S256x512), View.readAt_full (s := S512x512)]
           congr 1
           first
             | rw [View.readAt_writes_full (s := S256x512), View.readAt_full (s := S5000x512), View.readAt_full (s := S1x1x5000), View.readAt_full (s := S1x1x5000)]
             | rw [View.readAt_full (s := S256x512), View.readAt_full (s := S5000x512), View.readAt_full (s := S1x1x5000), View.readAt_full (s := S1x1x5000)])
        | rfl
    iexists _; isplitr; swap; (· iexact H6); ipureintro
    sl_unfold_run_names
    try unfold View.readCov
    rw [View.read_writes_full (s := S256x512)]
    first
      | rw [View.readAt_writes_full (s := S256x512), View.readAt_full (s := S5000x512), View.readAt_full (s := S1x1x5000), View.readAt_full (s := S1x1x5000)]
      | rw [View.readAt_full (s := S256x512), View.readAt_full (s := S5000x512), View.readAt_full (s := S1x1x5000), View.readAt_full (s := S1x1x5000)]

/-! ## The accumulator, point by point -/

variable (V : (c : Dev nD) → (b : Ref sig .tc) → Buf (Elt F) ((c : Thread nD τ).loc b))

/-- Window `w`'s block at point `t`: its array, as the region finds it, read through the block's view. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator before point `n`: zero, then one step per point. -/
def acc (c : Dev nD) : ℕ → Vec F S256x512 .f32
  | 0 => k2_pay1
  | n + 1 => if h : n < cfg2.N then k2_pay2 (blk V c 2 ⟨n, h⟩) (blk V c 1 ⟨n, h⟩) (blk V c 0 ⟨n, h⟩) (acc c n) else acc c n

/-- The accumulator's buffer. -/
abbrev scM : Memref sig .tc .vmem S256x512 .f32 := Memref.whole cc2_scratch0

/-- The accumulator's buffer before point `n`: at anything before the first, at `acc` after. -/
def held (c : Dev nD) (n : ℕ) : sProp (Mo F) :=
  iprop(∃ a, ⌜n ≠ 0 → a = acc V c n⌝ ∗ owns (c : Thread nD τ) scM fullShare a)

/-- The scoped buffers this kernel neither stages nor computes in. -/
def others (c : Dev nD) : sProp (Mo F) :=
  Pipeline.scopedRestBut (Ix := HIx 1) (Name := ℕ) (U := UU) (Lvl := ℕ) (Val := Elt F) spec2 c [cc2_scratch0]

theorem rest_eq (c : Dev nD) :
    (Pipeline.scopedRest (Ix := HIx 1) (Name := ℕ) (U := UU) (Lvl := ℕ) (Val := Elt F) spec2 c : sProp (Mo F))
      = iprop((∃ a, owns (c : Thread nD τ) scM fullShare a) ∗ others c) := by
  rw [Pipeline.scopedRest_split_of_list spec2 c [cc2_scratch0] (by decide) (by decide)]
  simp only [scM, owns_whole]
  rfl

variable (O : CellTallies nD τ sig (HIx 1)) (b : ℕ)

/-- The region's proof data, entered at `V` with `O` owed and the waits recorded so far at levels at most `b`. -/
def dat (c : Dev nD) : Dat τ (Elt F) (HIx 1) ℕ UU ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => (k2_pay3 (acc V c (t.val + 1)) (blk V c 3 t) : Vec F S256x512 .f32)
  Φ t := iprop(held V c t.val ∗ others c)
  q _ := fullShare
  owed _ := O
  recorded _ := lowWaits (F := F) b c

/-- An input's buffer holds its block when the body runs. -/
theorem before_in (c : Dev nD) (t : Fin cfg2.N) :
    (∀ d, (dat V O b c).before 0 t d = blk V c 0 t) ∧ (∀ d, (dat V O b c).before 1 t d = blk V c 1 t)
      ∧ (∀ d, (dat V O b c).before 2 t d = blk V c 2 t) ∧ (∀ d, (dat V O b c).before 3 t d = blk V c 3 t) := by
  refine ⟨fun d => ?_, fun d => ?_, fun d => ?_, fun d => ?_⟩
  · exact ((dat V O b c).before_in_eq_fetched 0 rfl (fun _ => rfl) (fun _ _ _ => rfl) (fun _ => rfl) t d).trans rfl
  · exact ((dat V O b c).before_in_eq_fetched 1 rfl (fun _ => rfl) (fun _ _ _ => rfl) (fun _ => rfl) t d).trans rfl
  · exact ((dat V O b c).before_in_eq_fetched 2 rfl (fun _ => rfl) (fun _ _ _ => rfl) (fun _ => rfl) t d).trans rfl
  · exact ((dat V O b c).before_in_eq_fetched 3 rfl (fun _ => rfl) (fun _ _ _ => rfl) (fun _ => rfl) t d).trans rfl

/-- The first branch is taken at point 0 alone, the second at point 9 alone. -/
theorem first_iff (t : Fin cfg2.N) : atFirst (grid2.coords t) ↔ t.val = 0 := by
  have ht : t.val < 10 := Nat.lt_of_lt_of_eq t.isLt N_2
  have e : (grid2.coords t 0).val = t.val / 1 % 10 := Pipeline.Grid.coords_val t 0 (by decide) rfl
  have e' : (grid2.coords t 0).val = t.val := by omega
  simp only [atFirst, e']
  word_cmp
theorem last_iff (t : Fin cfg2.N) : atLast (grid2.coords t) ↔ t.val = 9 := by
  have ht : t.val < 10 := Nat.lt_of_lt_of_eq t.isLt N_2
  have e : (grid2.coords t 0).val = t.val / 1 % 10 := Pipeline.Grid.coords_val t 0 (by decide) rfl
  have e' : (grid2.coords t 0).val = t.val := by omega
  simp only [atLast, k2_cond2, e']
  word_cmp

/-- Off the last point the result's window is idle and is not written back; at the last it is live. -/
theorem idle_out (t : Fin cfg2.N) : (¬ atLast (grid2.coords t) → cfg2.idle 4 (grid2.coords t) = true ∧ (cfg2.win 4).flush t = false)
    ∧ (atLast (grid2.coords t) → cfg2.idle 4 (grid2.coords t) = false) := by
  revert t; decide +kernel

/-! ## The body obligation -/

/-- The accumulator's step at a point of the grid. -/
theorem acc_succ (c : Dev nD) (t : Fin cfg2.N) :
    acc V c (t.val + 1) = k2_pay2 (blk V c 2 t) (blk V c 1 t) (blk V c 0 t) (acc V c t.val) := by
  show (if h : t.val < cfg2.N then _ else _) = _
  rw [dif_pos t.isLt]

/-- The result's buffer after a point: the accumulator's product at the last, anything before. -/
theorem out_after (c : Dev nD) (t : Fin cfg2.N) (d) :
    (owns (c : Thread nD τ) (st2_4 t) fullShare (if atLast (grid2.coords t) then k2_pay3 (acc V c (t.val + 1)) (blk V c 3 t) else (dat V O b c).before 4 t d) : sProp (Mo F))
      ⊢ (dat V O b c).leavesExact 4 t := by
  by_cases h : atLast (grid2.coords t)
  · rw [if_pos h]
    unfold Dat.leavesExact
    rw [show cfg2.idle 4 (cfg2.grid.coords t) = false from (idle_out t).2 h]
    exact Entails.refl _
  · rw [if_neg h, Dat.leavesExact_idle (dat V O b c) 4 t ((idle_out t).1 h).1 ((idle_out t).1 h).2]
    iintro H; iexists d; iexact H

set_option maxHeartbeats 1000000 in
/-- The body at a point, from the invariant and the windows' buffers before it to those after it. -/
theorem point (c : Dev nD) (t : Fin cfg2.N) :
    iprop((dat V O b c).Φ t.castSucc ∗ (dat V O b c).owesAt none t.castSucc
        ∗ (∃ d, owns (c : Thread nD τ) (st2_0 t) fullShare ((dat V O b c).before 0 t d)) ∗ (∃ d, owns (c : Thread nD τ) (st2_1 t) fullShare ((dat V O b c).before 1 t d))
        ∗ (∃ d, owns (c : Thread nD τ) (st2_2 t) fullShare ((dat V O b c).before 2 t d)) ∗ (∃ d, owns (c : Thread nD τ) (st2_3 t) fullShare ((dat V O b c).before 3 t d))
        ∗ (∃ d, owns (c : Thread nD τ) (st2_4 t) fullShare ((dat V O b c).before 4 t d)))
      ⊢ wp frame (wpE (defs₀ (F := F)) 𝒱₀ c none) Set.univ (bodyAt2 t) fun _ =>
        iprop((dat V O b c).Φ t.succ ∗ (dat V O b c).owesAt none t.succ
          ∗ (dat V O b c).leavesExact 0 t ∗ (dat V O b c).leavesExact 1 t ∗ (dat V O b c).leavesExact 2 t ∗ (dat V O b c).leavesExact 3 t
          ∗ (dat V O b c).leavesExact 4 t) := by
  obtain ⟨b0, b1, b2, b3⟩ := before_in V O b c t
  simp only [b0, b1, b2, b3]
  rw [show (dat V O b c).owesAt none t.succ = (dat V O b c).owesAt none t.castSucc from rfl,
    show (dat V O b c).Φ t.succ = iprop(held V c (t.val + 1) ∗ others c) from rfl,
    show (dat V O b c).Φ t.castSucc = iprop(held V c t.val ∗ others c) from
      Dat.Φ_castSucc (fun n _ => iprop(held V c n ∗ others c)) t]
  unfold held
  iintro ⟨⟨⟨%a, %ha, HS⟩, Hr⟩, Ho, ⟨%d0, H0⟩, ⟨%d1, H1⟩, ⟨%d2, H2⟩, ⟨%d3, H3⟩, ⟨%d4, H4⟩⟩
  iapply (body_run c (grid2.coords t) _ _ _ _ _ _ _ _ _ _ _ _ (blk V c 0 t) (blk V c 1 t) (blk V c 2 t) (blk V c 3 t) ((dat V O b c).before 4 t d4) a (acc V c t.val)
    (fun h => by rw [(first_iff t).mp h]; rfl) (fun h => (ha fun h0 => h ((first_iff t).mpr h0)).symm))
  isplitl [H0]; · iexact H0
  isplitl [H1]; · iexact H1
  isplitl [H2]; · iexact H2
  isplitl [H3]; · iexact H3
  isplitl [H4]; · iexact H4
  isplitl [HS]; · iexact HS
  rw [← acc_succ]
  iintro ⟨H0, H1, H2, H3, H4, HS⟩
  isplitl [HS Hr]
  · isplitl [HS]
    · iexists _; isplitr; swap; (· iexact HS); ipureintro; exact fun _ => rfl
    iexact Hr
  isplitl [Ho]; · iexact Ho
  isplitl [H0]; · iexact H0
  isplitl [H1]; · iexact H1
  isplitl [H2]; · iexact H2
  isplitl [H3]; · iexact H3
  iapply (out_after V O b c t d4); iexact H4

/-- The body's row of the kernel table, at a point. -/
theorem row (t : Fin cfg2.N) : defs₀ (F := F) .tc cfg2.body (cfg2.bodyArgs t (cfg2.slots t)) = bodyAt2 t := rfl

theorem obligation (c : Dev nD) : BodyObligation (dat V O b c) (defs₀ (F := F)) 𝒱₀ none Set.univ := fun t => by
  rw [bigSep_W2, bigSep_W2, row]
  exact triple_restated (point V O b c t) rfl .rfl fun _ => .rfl

/-! ## The region -/

/-- The proof data of both pipelines, this entry running the pooling one. -/
def pdats : (p : Fin 2) → (c : Dev nD) → Dat τ (Elt F) (HIx 1) ℕ UU ℕ (pinned (F := F) p) c
  | ⟨0, _⟩ => fun c => anyDat c
  | ⟨1, _⟩ => fun c => dat V O b c

variable (V' : (c : Dev nD) → (b : Ref sig .tc) → Buf (Elt F) ((c : Thread nD τ).loc b)) (R : Dev nD → sProp (Mo F))

set_option backward.isDefEq.respectTransparency.types false in
/-- THE POOLING REGION: from the unscoped buffers at `V` to the same at `V'`, which has the result's array at what
    the pipeline leaves in it and every other buffer as before. -/
def region (hO : ∀ g, O g none = 0) (hout : ∀ c, V' c main_v13 = (dat V O b c).arrAt 4 cfg2.N)
    (hne : ∀ c (r : Ref sig .tc), r ≠ main_v13 → V' c r = V c r) :
    Pipeline.RegionSeg (pcfgs (F := F)) adm (pdats V O b) none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (obligation V O b c).loose
  hwaits c := Pipeline.cellsWaits_intro _ (pdats V O b) none 1 c fun w s t => (K (F := F)).mayWait_none _ hO
  pre c := iprop(unscopedBufs c (V c) ∗ R c ∗ debt O b c)
  post c := iprop(unscopedBufs c (V' c) ∗ R c ∗ debt O b c)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats V O b) (launch2).win (launch2).arr_whole c
      ((pdats V O b 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold debt Pipeline.Dat.owesAt Pipeline.owesWithin
      icases HO with ⟨%W, %hW, HO⟩; iexists W
      isplitr; · ipureintro; exact fun p hp => Or.inl (hW p hp)
      iexact HO
    isplitr; · iempintro
    isplitl [Hrest] <;> iassumption
  hin c := by
    rw [show (pdats V O b 1 c).Φ 0 = iprop(held V c 0 ∗ others c) from rfl,
      show (Pipeline.scopedRest (Pipeline.pin (pcfgs (F := F)) adm 1).spec c : sProp (Mo F)) = _ from rest_eq c]
    unfold held
    iintro ⟨-, -, ⟨%a, Ha⟩, Hr⟩
    isplitl [Ha]
    · iexists a; isplitr; · ipureintro; exact fun h => absurd rfl h
      iexact Ha
    iexact Hr
  hout c := by
    rw [Pipeline.ownSems0_none, show (Pipeline.scopedRest (Pipeline.pin (pcfgs (F := F)) adm 1).spec c : sProp (Mo F)) = _ from rest_eq c,
      show (pdats V O b 1 c).Φ (Fin.last _) = iprop(held V c cfg2.N ∗ others c) from rfl]
    unfold held
    iintro ⟨⟨%a, -, Ha⟩, Hr⟩
    isplitr; · iempintro
    isplitr; · iempintro
    isplitl [Ha]; · iexists a; iexact Ha
    iexact Hr
  hexit c := by
    have hjoin := Pipeline.unscopedBufs_of_arrays (p := 1) (pcfgs (F := F)) adm (Ix := HIx 1) (Name := ℕ) (U := UU) (Lvl := ℕ) (launch2).win (launch2).arr_whole c
      (pdats V O b) ((pdats V O b 1 c).share_full fun _ => rfl) (V c) (V' c) ((pdats V O b 1 c).arrAt · cfg2.N)
      (fun w => by
        fin_cases w
        · exact ((pdats V O b 1 c).arrAt_in 0 rfl _).trans (hne c main_v12 (by decide)).symm
        · exact ((pdats V O b 1 c).arrAt_in 1 rfl _).trans (hne c main_v0 (by decide)).symm
        · exact ((pdats V O b 1 c).arrAt_in 2 rfl _).trans (hne c main_v2_3 (by decide)).symm
        · exact ((pdats V O b 1 c).arrAt_in 3 rfl _).trans (hne c main_arg4 (by decide)).symm
        · exact (hout c).symm)
      (fun r hr => hne c r fun h => hr (h ▸ Finset.mem_image.mpr ⟨4, Finset.mem_univ _, rfl⟩))
    iintro ⟨Ha, HO, -, Hrest, HR⟩
    imodintro
    isplitl [Ha Hrest]
    · iapply hjoin; isplitl [Ha] <;> iassumption
    isplitl [HR]; · iexact HR
    unfold debt Pipeline.Dat.owesAt Pipeline.owesWithin
    icases HO with ⟨%W, %hW, HO⟩; iexists W
    isplitr
    · ipureintro; intro p hp
      rcases hW hp with h | h
      · exact h
      · obtain ⟨w, s, rfl⟩ := h
        exact Nat.zero_le b
    iexact HO

end Cert.Seg.Pool

end
-- ==== Proof.Tile.lean ====
/-
  The softmax kernel on the SparseCores: one tile's task, at a symbolic (SparseCore, tile) pair, from the four arrays
  it reads to the values it writes.
-/
module

public import proofs.«01_k».proof.Proof.Base

@[expose] public section

noncomputable section

namespace Cert.Seg.Tile

open Cert.KernelIdeal Cert.KernelIdeal.Gen
open Idealize.ShloMosaic
open Idealize.ShloMosaic.Tactic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN)

variable {F : FTy → Type} [FloatOps F]

/-! ## The arrays, and what the kernel computes of them -/

/-- The scores, the segment ids, the maxima, the sums and the result, as locations of device `d`. -/
abbrev aLoc (d : Dev nD) : Loc nD τ sig := (SparseCore.T d).loc main_v5
abbrev iLoc (d : Dev nD) : Loc nD τ sig := (SparseCore.T d).loc main_v7
abbrev mLoc (d : Dev nD) : Loc nD τ sig := (SparseCore.T d).loc main_v8
abbrev sLoc (d : Dev nD) : Loc nD τ sig := (SparseCore.T d).loc main_v9
abbrev oLoc (d : Dev nD) : Loc nD τ sig := (SparseCore.T d).loc main_v10

/-- A segment id as an index of the 256 segments. -/
def segIx (w : BitVec 32) : S256.Idx :=
  fun a => ⟨w.toNat % 256, by obtain rfl : a = 0 := Subsingleton.elim _ _; exact Nat.mod_lt _ (by decide)⟩

/-- One lane of the kernel: the exponential of a score less its segment's maximum, over its segment's sum. -/
def lane (a m s : F .f32) : F .f32 := k1_pay1 (fun _ => a) (fun _ => m) (fun _ => s) (fun a => ⟨0, by obtain rfl : a = 0 := Subsingleton.elim _ _; decide⟩)

/-- What the kernel leaves in the result, element by element. -/
def soft (a : Vec F S50176 .f32) (g : Vec F S50176 .i32) (m s : Vec F S256 .f32) : Vec F S50176 .f32 :=
  fun j => lane (a j) (m (segIx (g j))) (s (segIx (g j)))

theorem pay_apply (v6 v10 v11 : Vec F S16 .f32) (x : S16.Idx) : k1_pay1 v6 v10 v11 x = lane (v6 x) (v10 x) (v11 x) := rfl

/-! ## The memrefs -/

abbrev aV : Memref sig .scVector .hbm S50176 .f32 := Memref.whole main_v5_scv
abbrev iV : Memref sig .scVector .hbm S50176 .i32 := Memref.whole main_v7_scv
abbrev mV : Memref sig .scVector .hbm S256 .f32 := Memref.whole main_v8_scv
abbrev sV : Memref sig .scVector .hbm S256 .f32 := Memref.whole main_v9_scv
abbrev oV : Memref sig .scVector .hbm S50176 .f32 := Memref.whole main_v10_scv
abbrev bA : Memref sig .scVector .vmem S1568 .f32 := Memref.whole cc1_scratch0
abbrev bI : Memref sig .scVector .vmem S1568 .i32 := Memref.whole cc1_scratch1
abbrev bO : Memref sig .scVector .vmem S1568 .f32 := Memref.whole cc1_scratch2
abbrev bM : Memref sig .scVector .vmem S256 .f32 := Memref.whole cc1_scratch3
abbrev bS : Memref sig .scVector .vmem S256 .f32 := Memref.whole cc1_scratch4

variable (d : Dev nD) (L : grid1.Coords)

abbrev cV (L : grid1.Coords) : Fin τ.nSC := (L 0).castLE hcore1
abbrev jV (L : grid1.Coords) : Fin τ.nSub := (L 1).castLE hsub1

/-- The tile's stretch of the 50176 elements. -/
abbrev rT (L : grid1.Coords) : Rect S50176 := Rect.unit (s := S50176) (k1_off1 L) S1568.size (k1_off1_inb L)
abbrev tset (L : grid1.Coords) : Finset S50176.Idx := (rT L).set

/-- The tile's token of a shared array. -/
def tok (L : grid1.Coords) : PosShare TreeShare := shareTokN fullShare ((L 0).val * 16 + (L 1).val)

abbrev aT (L : grid1.Coords) : Memref sig .scVector .hbm S1568 .f32 := (aV : Memref sig .scVector .hbm S50176 .f32).slice (rT L) (fun _ => rfl)
abbrev iT (L : grid1.Coords) : Memref sig .scVector .hbm S1568 .i32 := (iV : Memref sig .scVector .hbm S50176 .i32).slice (rT L) (fun _ => rfl)
abbrev oT (L : grid1.Coords) : Memref sig .scVector .hbm S1568 .f32 := (oV : Memref sig .scVector .hbm S50176 .f32).slice (rT L) (fun _ => rfl)

abbrev thr (d : Dev nD) (L : grid1.Coords) : Thread nD τ := V d (cV L) (jV L)

omit [FloatOps F] in
theorem pts_aT (f : Buf (Elt F) (aLoc d)) :
    ((aT L).view.loc (thr d L) ↦[(aT L).view.set]{fullShare} f : sProp (Mo F)) = aLoc d ↦[tset L]{fullShare} f := by
  rw [show (aT L).view.set = tset L from by
    show ((View.whole (main_v5_scv : Ref sig .scVector)).slice (rT L)).set = _
    rw [View.set_slice]; exact Finset.map_refl]
omit [FloatOps F] in
theorem pts_iT (f : Buf (Elt F) (iLoc d)) :
    ((iT L).view.loc (thr d L) ↦[(iT L).view.set]{fullShare} f : sProp (Mo F)) = iLoc d ↦[tset L]{fullShare} f := by
  rw [show (iT L).view.set = tset L from by
    show ((View.whole (main_v7_scv : Ref sig .scVector)).slice (rT L)).set = _
    rw [View.set_slice]; exact Finset.map_refl]
omit [FloatOps F] in
theorem pts_oT (f : Buf (Elt F) (oLoc d)) :
    ((oT L).view.loc (thr d L) ↦[(oT L).view.set]{fullShare} f : sProp (Mo F)) = oLoc d ↦[tset L]{fullShare} f := by
  rw [show (oT L).view.set = tset L from by
    show ((View.whole (main_v10_scv : Ref sig .scVector)).slice (rT L)).set = _
    rw [View.set_slice]; exact Finset.map_refl]
omit [FloatOps F] in
theorem pts_mV (q : PosShare TreeShare) (f : Buf (Elt F) (mLoc d)) :
    ((mV : Memref sig .scVector .hbm S256 .f32).view.loc (thr d L) ↦{q} f : sProp (Mo F)) = mLoc d ↦{q} f := rfl
omit [FloatOps F] in
theorem pts_sV (q : PosShare TreeShare) (f : Buf (Elt F) (sLoc d)) :
    ((sV : Memref sig .scVector .hbm S256 .f32).view.loc (thr d L) ↦{q} f : sProp (Mo F)) = sLoc d ↦{q} f := rfl

/-! ## The tile's own semaphores and buffers -/

abbrev cell0 (d : Dev nD) (L : grid1.Coords) : GSem nD τ sig := (thr d L, .dma cc1_scoped0.sem)
abbrev cell1 (d : Dev nD) (L : grid1.Coords) : GSem nD τ sig := (thr d L, .dma cc1_scoped1.sem)
abbrev cell2 (d : Dev nD) (L : grid1.Coords) : GSem nD τ sig := (thr d L, .dma cc1_scoped2.sem)
abbrev cell3 (d : Dev nD) (L : grid1.Coords) : GSem nD τ sig := (thr d L, .dma cc1_scoped3.sem)
abbrev cell4 (d : Dev nD) (L : grid1.Coords) : GSem nD τ sig := (thr d L, .dma cc1_scoped4.sem)

theorem bigSep_five (Φ : Fin 5 → sProp (Mo F)) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-- The five semaphores of the tile's copies, numbered. -/
def semNo : Fin 5 → SemLoc sig
  | 0 => .dma cc1_scoped0.sem | 1 => .dma cc1_scoped1.sem | 2 => .dma cc1_scoped2.sem | 3 => .dma cc1_scoped3.sem | 4 => .dma cc1_scoped4.sem
theorem semNo_inj : Function.Injective semNo := by decide
theorem semNo_scoped : ∀ k, (semNo k).isScoped .scVector = true := by decide
def cellNo (d : Dev nD) (L : grid1.Coords) : Fin 5 ↪ GSem nD τ sig := ⟨fun k => (thr d L, semNo k), fun _ _ e => semNo_inj (Prod.mk.inj e).2⟩

/-- The tile's own semaphores but those five. -/
def otherSems : sProp (Mo F) := bigSep (ownCells (thr d L) \ Finset.univ.map (cellNo d L)) fun g => semVal g 0

theorem ownSems0_V : (ownSems0 (thr d L) : sProp (Mo F))
    = iprop((semVal (cell0 d L) 0 ∗ semVal (cell1 d L) 0 ∗ semVal (cell2 d L) 0 ∗ semVal (cell3 d L) 0 ∗ semVal (cell4 d L) 0) ∗ otherSems d L) := by
  unfold SparseCore.Cfg.ownSems0 otherSems
  rw [BI.bigSep_sdiff_split (s := ownCells (thr d L)) (t := Finset.univ.map (cellNo d L)) (fun g hg => by
    obtain ⟨k, -, rfl⟩ := Finset.mem_map.mp hg
    exact mem_ownCells.mpr ⟨rfl, semNo_scoped k⟩), bigSep_map, bigSep_five]
  rfl

/-- The five buffers of the tile, numbered. -/
def bufNo : Fin 5 → Ref sig .scVector
  | 0 => cc1_scratch0 | 1 => cc1_scratch1 | 2 => cc1_scratch2 | 3 => cc1_scratch3 | 4 => cc1_scratch4
theorem bufNo_inj : Function.Injective bufNo := by decide
def refNo (L : grid1.Coords) : Fin 5 ↪ DevRef τ sig :=
  ⟨fun k => (Proc.scVector (cV L) (jV L)).devRef (bufNo k), fun _ _ e => bufNo_inj (Proc.devRef_injective _ e)⟩

/-- The tile's own buffers but those five. -/
def otherBufs : sProp (Mo F) :=
  bigSep (ownRefs (τ := τ) (.scVector (cV L) (jV L)) \ Finset.univ.map (refNo L)) fun b => iprop(∃ f, ((d, b) : Loc nD τ sig) ↦{fullShare} f)

theorem ownBufs_V : (ownBufs (thr d L) : sProp (Mo F))
    = iprop(((∃ f, (thr d L).loc cc1_scratch0 ↦{fullShare} f) ∗ (∃ f, (thr d L).loc cc1_scratch1 ↦{fullShare} f) ∗ (∃ f, (thr d L).loc cc1_scratch2 ↦{fullShare} f)
        ∗ (∃ f, (thr d L).loc cc1_scratch3 ↦{fullShare} f) ∗ (∃ f, (thr d L).loc cc1_scratch4 ↦{fullShare} f)) ∗ otherBufs d L) := by
  unfold SparseCore.Cfg.ownBufs otherBufs
  refine (BI.bigSep_sdiff_split (s := ownRefs (τ := τ) (.scVector (cV L) (jV L))) (t := Finset.univ.map (refNo L)) (fun b hb => by
    obtain ⟨k, -, rfl⟩ := Finset.mem_map.mp hb
    refine SparseCore.Cfg.mem_ownRefs_of_owner (p := Proc.scVector (cV L) (jV L)) ?_
    fin_cases k <;> rfl)).trans ?_
  rw [bigSep_map, bigSep_five]
  rfl

/-! ## The offsets -/

theorem off1_eq : k1_off1 L = ![((L 1).val * 2 + (L 0).val) * 1568] := by
  revert L
  have h : ∀ (a : Fin 2) (b : Fin 16), (Scalar.muli (Scalar.addi (Scalar.muli (BitVec.ofNat 32 b.val) 2#32) (BitVec.ofNat 32 a.val)) 1568#32).toNat = (b.val * 2 + a.val) * 1568 := by decide
  intro L
  exact congrArg (fun n => ![n]) (h (L 0) (L 1))
theorem trips_eq : k1_t1_loop.trips = 98 := by decide
theorem off2_eq (t : Fin k1_t1_loop.trips) : k1_off2 t = ![16 * t.val] := by
  have h : ∀ t : Fin 98, (Scalar.indexCast (Scalar.muli (Scf.iv 0#32 1#32 t) 16#32) : Index).toNat = 16 * t.val := by decide
  exact congrArg (fun n => ![n]) (h (t.cast trips_eq))
theorem off3_eq (t : Fin k1_t1_loop.trips) : k1_off3 t = ![16 * t.val] := off2_eq t

/-! ## The task -/

variable (a : Buf (Elt F) (aLoc d)) (g : Buf (Elt F) (iLoc d)) (mx sm : Buf (Elt F) (mLoc d)) (o : Buf (Elt F) (oLoc d))

/-- What a task is handed: its stretches of the scores, the ids and the result, a share of the maxima and the sums. -/
def go : sProp (Mo F) :=
  iprop((aLoc d ↦[tset L]{fullShare} a) ∗ (iLoc d ↦[tset L]{fullShare} g) ∗ (mLoc d ↦{tok L} mx) ∗ (sLoc d ↦{tok L} sm) ∗ (oLoc d ↦[tset L]{fullShare} o))

/-- Before trip `t`: the first `16 t` results stored. -/
def inv (fa : Vec F S1568 .f32) (fi : Vec F S1568 .i32) (fm fs : Vec F S256 .f32) (t : ℕ) (_ : PUnit) : sProp (Mo F) :=
  iprop((bA.view.loc (thr d L) ↦{fullShare} fa) ∗ (bI.view.loc (thr d L) ↦{fullShare} fi)
    ∗ (bM.view.loc (thr d L) ↦{fullShare} fm) ∗ (bS.view.loc (thr d L) ↦{fullShare} fs)
    ∗ ∃ f : Vec F S1568 .f32, ⌜∀ j : S1568.Idx, (j 0).val < 16 * t → f j = lane (fa j) (fm (segIx (fi j))) (fs (segIx (fi j)))⌝
        ∗ (bO.view.loc (thr d L) ↦{fullShare} f))

/-- The vector a trip reads of a fetched stretch at its offset. -/
theorem win_apply {e : EltTy} (v : View sig .scVector .vmem S1568 e) (fv : v.ty.Contents (Elt F)) (t : Fin k1_t1_loop.trips) (x : S16.Idx) (j : S1568.Idx) (hj : (j 0).val = 16 * t.val + (x 0).val) :
    v.readAt (Elt F) (Rect.unit (s := S1568) (k1_off2 t) S16.size (k1_off2_inb t)).toLoadRect fv x = v.read (Elt F) fv j := by
  refine congrArg (v.read (Elt F) fv) (funext fun c => Fin.ext ?_)
  obtain rfl : c = 0 := Subsingleton.elim _ _
  show k1_off2 t 0 + 1 * (x 0).val = (j 0).val
  rw [off2_eq, hj]; show 16 * t.val + _ = _; omega

/-- The table entry a lane's id names. -/
theorem gather_apply (fm : Vec F S256 .f32) (v9 : IVec S16 32) (h : ∀ a x, ((![v9] : Fin 1 → IVec S16 32) a x).toNat < S256.size a) (x : S16.Idx) :
    loadIdx fm ![v9] h x = fm (segIx (v9 x)) := by
  refine congrArg fm (funext fun c => Fin.ext ?_)
  obtain rfl : c = 0 := Subsingleton.elim _ _
  show (v9 x).toNat = (v9 x).toNat % 256
  exact (Nat.mod_eq_of_lt (h 0 x)).symm

/-- One trip's store carries the invariant's fact on by sixteen elements. -/
theorem trip_value (fa : Vec F S1568 .f32) (fi : Vec F S1568 .i32) (fm fs : Vec F S256 .f32) (t : Fin k1_t1_loop.trips) (f : Vec F S1568 .f32) (w : Vec F S16 .f32)
    (hf : ∀ j : S1568.Idx, (j 0).val < 16 * t.val → f j = lane (fa j) (fm (segIx (fi j))) (fs (segIx (fi j))))
    (hw : ∀ (x : S16.Idx) (j : S1568.Idx), (j 0).val = 16 * t.val + (x 0).val → w x = lane (fa j) (fm (segIx (fi j))) (fs (segIx (fi j))))
    (j : S1568.Idx) (hj : (j 0).val < 16 * (t.val + 1)) :
    bO.view.read (Elt F) (bO.view.writes (Elt F) f [⟨Rect.unit (s := S1568) (k1_off3 t) S16.size (k1_off3_inb t), w⟩]) j
      = lane (fa j) (fm (segIx (fi j))) (fs (segIx (fi j))) := by
  by_cases h : (j 0).val < 16 * t.val
  · rw [View.read_writes_cons_miss_of_axis bO.view f _ _ j 0 (16 * t.val) 16 (by show k1_off3 t 0 = _; rw [off3_eq]; rfl) rfl rfl (Or.inl h)]
    exact hf j h
  · have hx : (j 0).val - 16 * t.val < 16 := by omega
    let x : S16.Idx := fun c => ⟨(j 0).val - 16 * t.val, by obtain rfl : c = 0 := Subsingleton.elim _ _; exact hx⟩
    refine (View.read_writes_cons_hit_of_coords bO.view f (Rect.unit (s := S1568) (k1_off3 t) S16.size (k1_off3_inb t)) w [] x j fun c => ?_).trans
      (hw x j (by show (j 0).val = 16 * t.val + ((j 0).val - 16 * t.val); omega))
    obtain rfl : c = 0 := Subsingleton.elim _ _
    show (j 0).val = k1_off3 t 0 + 1 * ((j 0).val - 16 * t.val)
    rw [off3_eq]; show _ = 16 * t.val + _; omega

/-- A whole table read through its own rectangle is the table. -/
theorem read_access (fm : Vec F S256 .f32) : (bM.access (Rect.whole S256)).read (Elt F) fm = fm ∧ (bS.access (Rect.whole S256)).read (Elt F) fm = fm := by
  constructor <;> funext x <;> refine congrArg fm (funext fun c => Fin.ext ?_) <;> (show 0 + 1 * (x c).val = (x c).val; omega)

omit [FloatOps F] in
theorem pts_oT_congr (f f' : Buf (Elt F) (oLoc d)) (h : (oT L).view.read (Elt F) f = (oT L).view.read (Elt F) f') :
    ((oT L).view.loc (thr d L) ↦[(oT L).view.set]{fullShare} f : sProp (Mo F)) = oLoc d ↦[tset L]{fullShare} f' := by
  rw [← pts_oT]
  refine pointsTo_congr fun i hi => ?_
  obtain ⟨x, -, rfl⟩ := Finset.mem_map.mp hi
  exact congrFun h x

theorem tile_body (hF : (K (F := F)).Facts) (hok : ∀ j : S50176.Idx, (g j : BitVec 32).toNat < 256) (O : CellTallies nD τ sig (HIx 1)) (W : Waits sig (HIx 1)) (hO : ∀ g, O g none = 0) :
    iprop(levAts (K (F := F)).L (K (F := F)).lev ∗ emp ∗ go d L a g mx sm o
        ∗ scopedBufs (thr d L) ∗ scopedSems0 (thr d L) ∗ owes (thr d L) O W)
      ⊢ wp frame (wpE (defs₀ (F := F)) 𝒱₀ (thr d L) none) Set.univ
          (cc1__sc_softmax_body L aV (Memref.isWhole_whole _) iV (Memref.isWhole_whole _) mV (Memref.isWhole_whole _) sV (Memref.isWhole_whole _)
            oV (Memref.isWhole_whole _) bA (Memref.isWhole_whole _) bI (Memref.isWhole_whole _) bO (Memref.isWhole_whole _)
            bM (Memref.isWhole_whole _) bS (Memref.isWhole_whole _) cc1_scoped0 cc1_scoped1 cc1_scoped2 cc1_scoped3 cc1_scoped4)
          fun _ => iprop(go d L a g mx sm (soft a g mx sm) ∗ scopedBufs (thr d L) ∗ scopedSems0 (thr d L)
            ∗ ∃ W', ⌜∀ p ∈ W', p ∈ W ∨ p.2 = none⌝ ∗ owes (thr d L) O W') := by
  simp only [cc1__sc_softmax_body_eq_skeleton]; unfold cc1__sc_softmax_body_skel
  rw [(K (F := F)).scopedBufs_V hF d (cV L) (jV L), SparseCore.Cfg.scopedSems0_V (Val := Elt F) d (cV L) (jV L), ownSems0_V, ownBufs_V]
  unfold go
  rw [← pts_aT, ← pts_iT, ← pts_oT, ← pts_mV d L, ← pts_sV d L]
  iintro ⟨#Hlv, -, ⟨Ha, Hi, Hm, Hs, Ho⟩, ⟨⟨⟨%f0, H0⟩, ⟨%f1, H1⟩, ⟨%f2, H2⟩, ⟨%f3, H3⟩, ⟨%f4, H4⟩⟩, Hbufs⟩,
    ⟨⟨C0, C1, C2, C3, C4⟩, Hsems⟩, HO⟩
  ihave Hmw := ((K (F := F)).mayWaits_none (thr := thr d L) hO) $$ Hlv
  ihave H0 := (Entails.of_eq (show _ = (bA.view.loc (thr d L) ↦{fullShare} f0 : sProp (Mo F)) from rfl)) $$ H0
  ihave H1 := (Entails.of_eq (show _ = (bI.view.loc (thr d L) ↦{fullShare} f1 : sProp (Mo F)) from rfl)) $$ H1
  ihave H2 := (Entails.of_eq (show _ = (bO.view.loc (thr d L) ↦{fullShare} f2 : sProp (Mo F)) from rfl)) $$ H2
  ihave H3 := (Entails.of_eq (show _ = (bM.view.loc (thr d L) ↦{fullShare} f3 : sProp (Mo F)) from rfl)) $$ H3
  ihave H4 := (Entails.of_eq (show _ = (bS.view.loc (thr d L) ↦{fullShare} f4 : sProp (Mo F)) from rfl)) $$ H4
  sl_exec (disch := exact View.amount_pos _ _ (show 0 < S1568.numel by decide))
  ihave H0 := (Entails.of_eq (congrArg (fun f => (bA.view.loc (thr d L) ↦{fullShare} f : sProp (Mo F))) (View.write_whole_univ _ _ _))) $$ H0
  ihave H1 := (Entails.of_eq (congrArg (fun f => (bI.view.loc (thr d L) ↦{fullShare} f : sProp (Mo F))) (View.write_whole_univ _ _ _))) $$ H1
  ihave H3 := (Entails.of_eq (congrArg (fun f => (bM.view.loc (thr d L) ↦{fullShare} f : sProp (Mo F))) (View.write_whole_univ _ _ _))) $$ H3
  ihave H4 := (Entails.of_eq (congrArg (fun f => (bS.view.loc (thr d L) ↦{fullShare} f : sProp (Mo F))) (View.write_whole_univ _ _ _))) $$ H4
  sl_for (inv d L ((aT L).view.read (Elt F) a) ((iT L).view.read (Elt F) g) mx sm) $$ [H0 H1 H2 H3 H4]
  case region =>
    intro k _
    unfold inv
    iintro ⟨H0, H1, H3, H4, %f, %hf, H2⟩
    sl_exec
    have hchk : k1_chk1 (bI.view.readAt (Elt F) (Rect.unit (s := S1568) (k1_off2 k) S16.size (k1_off2_inb k)).toLoadRect ((iT L).view.read (Elt F) g)) := by
      have h : ∀ c x, ((![bI.view.readAt (Elt F) (Rect.unit (s := S1568) (k1_off2 k) S16.size (k1_off2_inb k)).toLoadRect ((iT L).view.read (Elt F) g)] : Fin 1 → IVec S16 32) c x).toNat < S256.size c := by
        intro c x
        obtain rfl : c = 0 := Subsingleton.elim _ _
        exact hok _
      exact ⟨h, h⟩
    rw [wp_assume_of _ _ _ _ hchk]
    ihave H3 := (Entails.of_eq (show _ = ((bM.access (.whole S256)).loc (thr d L) ↦{fullShare} mx : sProp (Mo F)) from rfl)) $$ H3
    iapply (SparseCore.wp_vectorLoadIdx 𝒱₀ (thr d L) none Set.univ (base := bM) (S := Finset.univ) (q := fullShare) (Finset.subset_univ _)) $$ H3; iintro H3
    ihave H4 := (Entails.of_eq (show _ = ((bS.access (.whole S256)).loc (thr d L) ↦{fullShare} sm : sProp (Mo F)) from rfl)) $$ H4
    iapply (SparseCore.wp_vectorLoadIdx 𝒱₀ (thr d L) none Set.univ (base := bS) (S := Finset.univ) (q := fullShare) (Finset.subset_univ _)) $$ H4; iintro H4
    sl_exec
    sl_step
    isplitl [H0]; · iexact H0
    isplitl [H1]; · iexact H1
    isplitl [H3]; · iexact H3
    isplitl [H4]; · iexact H4
    iexists _; isplitr; swap; (· iexact H2); ipureintro
    refine trip_value _ _ mx sm k f _ hf fun x j hj => ?_
    sl_unfold_run_names
    rw [pay_apply, win_apply _ _ k x j hj, gather_apply, gather_apply, win_apply _ _ k x j hj, (read_access mx).1, (read_access sm).2]
    rfl
  · unfold inv
    isplitl [H0]; · iexact H0
    isplitl [H1]; · iexact H1
    isplitl [H3]; · iexact H3
    isplitl [H4]; · iexact H4
    iexists f2; isplitr; · ipureintro; exact fun j h => absurd h (by omega)
    iexact H2
  iintro %_ HI
  unfold inv
  icases HI with ⟨H0, H1, H3, H4, %f, %hf, H2⟩
  sl_exec (disch := exact View.amount_pos _ _ (show 0 < S1568.numel by decide))
  sl_step
  have hval : (oT L).view.read (Elt F) ((oT L).view.writes (Elt F) o [⟨Rect.whole S1568, bO.view.read (Elt F) f⟩]) = (oT L).view.read (Elt F) (soft a g mx sm) := by
    rw [View.read_writes_whole]
    funext x
    refine (hf x ?_).trans rfl
    have h0 : (x 0).val < 1568 := (x 0).isLt
    have h2 : Scf.trips k1_t1_loop.lb k1_t1_loop.ub k1_t1_loop.st = 98 := trips_eq
    omega
  isplitl [Ha Hi Hm Hs Ho]
  · isplitl [Ha]; · iexact Ha
    isplitl [Hi]; · iexact Hi
    isplitl [Hm]; · iexact Hm
    isplitl [Hs]; · iexact Hs
    iapply (Entails.of_eq (pts_oT_congr d L _ (soft a g mx sm) hval)); iexact Ho
  isplitl [H0 H1 H2 H3 H4 Hbufs]
  · isplitl [H0 H1 H2 H3 H4]
    · isplitl [H0]; · iexists _; iexact H0
      isplitl [H1]; · iexists _; iexact H1
      isplitl [H2]; · iexists _; iexact H2
      isplitl [H3]; · iexists _; iexact H3
      iexists _; iexact H4
    iexact Hbufs
  isplitl [C0 C1 C2 C3 C4 Hsems]
  · isplitl [C0 C1 C2 C3 C4]
    · isplitl [C0]; · iexact C0
      isplitl [C1]; · iexact C1
      isplitl [C2]; · iexact C2
      isplitl [C3]; · iexact C3
      iexact C4
    iexact Hsems
  iexists _; isplitr; swap; (· iexact HO); ipureintro
  intro p hp
  simp only [Finset.mem_insert] at hp
  rcases hp with rfl | rfl | rfl | rfl | rfl | hp
  iterate 5 exact Or.inr rfl
  exact Or.inl hp

end Cert.Seg.Tile

end
-- ==== Proof.Deal.lean ====
/-
  How the five arrays of the SparseCore call are dealt to its 32 tiles and collected again: the stretches of the three
  long arrays partition their 50176 elements, and the two tables of 256 are read by every tile at a share of its own.
-/
module

public import proofs.«01_k».proof.Proof.Tile

@[expose] public section

noncomputable section

namespace Cert.Seg.Tile

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareTok shareDrop pointsTo_toks_split pointsTo_toks_join)

variable {F : FTy → Type}

/-- A tile by its SparseCore and its number there. -/
def coordsV (c : Fin (grid1.bound 0)) (s : Fin (grid1.bound 1)) : grid1.Coords :=
  fun | 0 => c | 1 => s | ⟨_ + 2, h⟩ => absurd h (Nat.not_lt.2 (Nat.le_add_left _ _))

/-- The tiles as pairs. -/
abbrev tile (p : Fin 2 × Fin 16) : grid1.Coords := coordsV p.1 p.2

theorem mem_tset (L : grid1.Coords) (j : S50176.Idx) :
    j ∈ tset L ↔ ((L 1).val * 2 + (L 0).val) * 1568 ≤ (j 0).val ∧ (j 0).val < ((L 1).val * 2 + (L 0).val) * 1568 + 1568 := by
  rw [Rect.mem_set_unit, off1_eq]
  constructor
  · intro h; exact h 0
  · intro h a; obtain rfl : a = 0 := Subsingleton.elim _ _; exact h

theorem tiles_disjoint : ∀ p ∈ (Finset.univ : Finset (Fin 2 × Fin 16)), ∀ q ∈ (Finset.univ : Finset (Fin 2 × Fin 16)), p ≠ q → Disjoint (tset (tile p)) (tset (tile q)) := by
  intro p _ q _ h
  rw [Finset.disjoint_left]
  intro j hp hq
  obtain ⟨h1, h2⟩ := (mem_tset _ _).mp hp
  obtain ⟨h3, h4⟩ := (mem_tset _ _).mp hq
  have e0 : ∀ p : Fin 2 × Fin 16, ((tile p) 0).val = p.1.val := fun _ => rfl
  have e1 : ∀ p : Fin 2 × Fin 16, ((tile p) 1).val = p.2.val := fun _ => rfl
  rw [e0, e1] at h1 h2 h3 h4
  have := p.1.isLt; have := q.1.isLt
  exact h (Prod.ext (Fin.ext (by omega)) (Fin.ext (by omega)))

theorem tiles_cover : (Finset.univ : Finset (Fin 2 × Fin 16)).biUnion (fun p => tset (tile p)) = Finset.univ := by
  refine Finset.eq_univ_iff_forall.mpr fun j => Finset.mem_biUnion.mpr ?_
  have hj : (j 0).val < 50176 := (j 0).isLt
  refine ⟨(⟨(j 0).val / 1568 % 2, by omega⟩, ⟨(j 0).val / 1568 / 2, by omega⟩), Finset.mem_univ _, (mem_tset _ _).mpr ?_⟩
  show ((j 0).val / 1568 / 2 * 2 + (j 0).val / 1568 % 2) * 1568 ≤ _ ∧ _ < ((j 0).val / 1568 / 2 * 2 + (j 0).val / 1568 % 2) * 1568 + 1568
  omega

theorem a_tiles (d : Dev nD) (f : Buf (Elt F) (aLoc d)) :
    (aLoc d ↦{fullShare} f : sProp (Mo F)) = bigSep Finset.univ fun p : Fin 2 × Fin 16 => aLoc d ↦[tset (tile p)]{fullShare} f := by
  rw [← pointsTo_biUnion Finset.univ (ℓ := aLoc d) (fun p => tset (tile p)) tiles_disjoint, tiles_cover]; try rfl
theorem i_tiles (d : Dev nD) (f : Buf (Elt F) (iLoc d)) :
    (iLoc d ↦{fullShare} f : sProp (Mo F)) = bigSep Finset.univ fun p : Fin 2 × Fin 16 => iLoc d ↦[tset (tile p)]{fullShare} f := by
  rw [← pointsTo_biUnion Finset.univ (ℓ := iLoc d) (fun p => tset (tile p)) tiles_disjoint, tiles_cover]; try rfl
theorem o_tiles (d : Dev nD) (f : Buf (Elt F) (oLoc d)) :
    (oLoc d ↦{fullShare} f : sProp (Mo F)) = bigSep Finset.univ fun p : Fin 2 × Fin 16 => oLoc d ↦[tset (tile p)]{fullShare} f := by
  rw [← pointsTo_biUnion Finset.univ (ℓ := oLoc d) (fun p => tset (tile p)) tiles_disjoint, tiles_cover]; try rfl

/-- The 32 tokens of a table, by tile. -/
theorem toks_tiles (ℓ : Loc nD τ sig) (f : Buf (Elt F) ℓ) :
    (bigSep Finset.univ fun i : Fin 32 => (ℓ ↦{shareTok fullShare 32 i} f : sProp (Mo F))) = bigSep Finset.univ fun p : Fin 2 × Fin 16 => ℓ ↦{tok (tile p)} f := by
  rw [← Finset.map_univ_equiv (finProdFinEquiv : Fin 2 × Fin 16 ≃ Fin 32), bigSep_map]
  refine bigSep_congr fun p _ => ?_
  show (ℓ ↦{shareTokN fullShare (p.2.val + 16 * p.1.val)} f : sProp (Mo F)) = ℓ ↦{shareTokN fullShare (p.1.val * 16 + p.2.val)} f
  rw [show p.2.val + 16 * p.1.val = p.1.val * 16 + p.2.val by omega]

/-- What no tile is handed of the two tables. -/
def left (d : Dev nD) (mx sm : Buf (Elt F) (mLoc d)) : sProp (Mo F) :=
  iprop((mLoc d ↦{shareDrop fullShare 32} mx) ∗ (sLoc d ↦{shareDrop fullShare 32} sm))

variable (d : Dev nD) (a : Buf (Elt F) (aLoc d)) (g : Buf (Elt F) (iLoc d)) (mx sm : Buf (Elt F) (mLoc d)) (o : Buf (Elt F) (oLoc d))

/-- The five arrays whole. -/
def five : sProp (Mo F) :=
  iprop((aLoc d ↦{fullShare} a) ∗ (iLoc d ↦{fullShare} g) ∗ (mLoc d ↦{fullShare} mx) ∗ (sLoc d ↦{fullShare} sm) ∗ (oLoc d ↦{fullShare} o))

/-- What all the tiles are handed, by array. -/
theorem tiles_eq : (bigSep Finset.univ fun c : Fin 2 => bigSep Finset.univ fun i : Fin 16 => go d (coordsV c i) a g mx sm o)
    = iprop((aLoc d ↦{fullShare} a) ∗ (iLoc d ↦{fullShare} g) ∗ (bigSep Finset.univ fun i : Fin 32 => (mLoc d ↦{shareTok fullShare 32 i} mx : sProp (Mo F)))
        ∗ (bigSep Finset.univ fun i : Fin 32 => (sLoc d ↦{shareTok fullShare 32 i} sm : sProp (Mo F))) ∗ (oLoc d ↦{fullShare} o)) := by
  rw [← BI.bigSep_univ_prod (fun p : Fin 2 × Fin 16 => go d (coordsV p.1 p.2) a g mx sm o)]
  unfold go
  rw [bigSep_sep', bigSep_sep', bigSep_sep', bigSep_sep', a_tiles, i_tiles, o_tiles, toks_tiles, toks_tiles]

/-- The five arrays dealt to the tiles. -/
theorem deal : five d a g mx sm o ⊢ iprop(left d mx sm ∗ bigSep Finset.univ fun c : Fin 2 => bigSep Finset.univ fun i : Fin 16 => go d (coordsV c i) a g mx sm o) := by
  rw [tiles_eq]; unfold five left
  iintro ⟨Ha, Hi, Hm, Hs, Ho⟩
  ihave Hm := (pointsTo_toks_split fullShare 32) $$ Hm
  icases Hm with ⟨Hm0, Hm⟩
  ihave Hs := (pointsTo_toks_split fullShare 32) $$ Hs
  icases Hs with ⟨Hs0, Hs⟩
  isplitl [Hm0 Hs0]; · isplitl [Hm0] <;> iassumption
  isplitl [Ha]; · iexact Ha
  isplitl [Hi]; · iexact Hi
  isplitl [Hm]; · iexact Hm
  isplitl [Hs]; · iexact Hs
  iexact Ho

/-- The five arrays collected from the tiles. -/
theorem collect : iprop(left d mx sm ∗ bigSep Finset.univ fun c : Fin 2 => bigSep Finset.univ fun i : Fin 16 => go d (coordsV c i) a g mx sm o) ⊢ five d a g mx sm o := by
  rw [tiles_eq]; unfold five left
  iintro ⟨⟨Hm0, Hs0⟩, Ha, Hi, Hm, Hs, Ho⟩
  ihave Hm := (pointsTo_toks_join fullShare 32) $$ [Hm0 Hm]
  · isplitl [Hm0] <;> iassumption
  ihave Hs := (pointsTo_toks_join fullShare 32) $$ [Hs0 Hs]
  · isplitl [Hs0] <;> iassumption
  isplitl [Ha]; · iexact Ha
  isplitl [Hi]; · iexact Hi
  isplitl [Hm]; · iexact Hm
  isplitl [Hs]; · iexact Hs
  iexact Ho

end Cert.Seg.Tile

end
-- ==== Proof.Steps.lean ====
/-
  @main's three kernels as steps between valuations of the device's unscoped arrays: what each leaves in them, and its
  rule at the head of @main.
-/
module

public import proofs.«01_k».proof.Proof.Stats
public import proofs.«01_k».proof.Proof.Pool
public import proofs.«01_k».proof.Proof.Deal

@[expose] public section

noncomputable section

namespace Cert.Seg

open Cert.KernelIdeal Cert.KernelIdeal.Gen
open Idealize.ShloMosaic
open Idealize.ShloMosaic.TcCoe
open Idealize.ShloMosaic.SparseCore.Cfg (HIx Pay)
open Idealize.ShloMosaic.StableHlo (held held_sub_split held_congr)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The valuations -/

/-- A TensorCore reference as a device reference. -/
abbrev rf (r : Ref sig .tc) : DevRef τ sig := Proc.devRef .tc r

theorem rf_ne {r r' : Ref sig .tc} (h : r ≠ r') : rf r ≠ rf r' := fun e => h (Proc.devRef_injective _ e)

/-- A device's arrays as the regions' proofs take them. -/
abbrev at' (V : Dev nD → Valuation τ sig (Elt F)) : (c : Dev nD) → (b : Ref sig .tc) → Buf (Elt F) ((c : Thread nD τ).loc b) := fun c b => V c (rf b)

/-- What the statistics kernel leaves in its result `w`. -/
def statOut (V : Dev nD → Valuation τ sig (Elt F)) (c : Dev nD) (w : Fin cfg0.W) := (Stats.dat (at' V) 0 0 c).arrAt w cfg0.N
/-- What the pooling kernel leaves in its result. -/
def poolOut (V : Dev nD → Valuation τ sig (Elt F)) (c : Dev nD) (w : Fin cfg2.W) := (Pool.dat (at' V) 0 0 c).arrAt w cfg2.N

/-- The arrays after the statistics kernel. -/
def afterStats (V : Dev nD → Valuation τ sig (Elt F)) (c : Dev nD) : Valuation τ sig (Elt F) :=
  Function.update (Function.update (Function.update (Function.update (V c) (rf main_v2_0) (statOut V c 4)) (rf main_v2_1) (statOut V c 5))
    (rf main_v2_2) (statOut V c 6)) (rf main_v2_3) (statOut V c 7)

/-- The arrays after the pooling kernel. -/
def afterPool (V : Dev nD → Valuation τ sig (Elt F)) (c : Dev nD) : Valuation τ sig (Elt F) :=
  Function.update (V c) (rf main_v13) (poolOut V c 4)

/-- The arrays after the SparseCore kernel. -/
def afterSoft (V : Dev nD → Valuation τ sig (Elt F)) (c : Dev nD) : Valuation τ sig (Elt F) :=
  Function.update (V c) (rf main_v10) (Tile.soft (V c (rf main_v5)) (V c (rf main_v7)) (V c (rf main_v8)) (V c (rf main_v9)))

section
variable (V : Dev nD → Valuation τ sig (Elt F)) (c : Dev nD)

theorem afterStats_scores : afterStats V c (rf main_v2_0) = statOut V c 4 := by
  unfold afterStats
  rw [Function.update_of_ne (rf_ne (by decide)), Function.update_of_ne (rf_ne (by decide)), Function.update_of_ne (rf_ne (by decide)), Function.update_self]
theorem afterStats_max : afterStats V c (rf main_v2_1) = statOut V c 5 := by
  unfold afterStats
  rw [Function.update_of_ne (rf_ne (by decide)), Function.update_of_ne (rf_ne (by decide)), Function.update_self]
theorem afterStats_sum : afterStats V c (rf main_v2_2) = statOut V c 6 := by
  unfold afterStats
  rw [Function.update_of_ne (rf_ne (by decide)), Function.update_self]
theorem afterStats_copy : afterStats V c (rf main_v2_3) = statOut V c 7 := by
  unfold afterStats
  rw [Function.update_self]
theorem afterStats_ne (r : Ref sig .tc) (h0 : r ≠ main_v2_0) (h1 : r ≠ main_v2_1) (h2 : r ≠ main_v2_2) (h3 : r ≠ main_v2_3) : afterStats V c (rf r) = V c (rf r) := by
  unfold afterStats
  rw [Function.update_of_ne (rf_ne h3), Function.update_of_ne (rf_ne h2), Function.update_of_ne (rf_ne h1), Function.update_of_ne (rf_ne h0)]
theorem afterPool_out : afterPool V c (rf main_v13) = poolOut V c 4 := Function.update_self _ _ _
theorem afterPool_ne (r : Ref sig .tc) (h : r ≠ main_v13) : afterPool V c (rf r) = V c (rf r) := Function.update_of_ne (rf_ne h) _ _
theorem afterSoft_out : afterSoft V c (rf main_v10) = Tile.soft (V c (rf main_v5)) (V c (rf main_v7)) (V c (rf main_v8)) (V c (rf main_v9)) := Function.update_self _ _ _
theorem afterSoft_ne (r : Ref sig .tc) (h : r ≠ main_v10) : afterSoft V c (rf r) = V c (rf r) := Function.update_of_ne (rf_ne h) _ _
end

/-! ## The TensorCore kernels at the head of @main -/

section
variable [∀ e, Nonempty (Elt F e)] (V : Dev nD → Valuation τ sig (Elt F)) (O : CellTallies nD τ sig (HIx 1)) (b : ℕ) (d : Dev nD)

/-- The statistics kernel at the head of @main. -/
theorem stats_step (hO : ∀ g, O g none = 0) (Φ : PUnit → sProp (Mo F)) :
    iprop((iprop(boundary (d.tc : Thread nD τ) ∗ held (d.tc : Thread nD τ) ucRefs (afterStats V d) ∗ debt O b d) -∗ Φ ⟨⟩)
        ∗ boundary (d.tc : Thread nD τ) ∗ held (d.tc : Thread nD τ) ucRefs (V d) ∗ debt O b d ∗ levAts (K (F := F)).L (K (F := F)).lev ∗ fuel 0 d)
      ⊢ wp frame (wpE ((K (F := F)).defs (D (F := F))) 𝒱 (d.tc : Thread nD τ) none) Set.univ
          (Prog.lift (.customCall (SparseCore.inner (Pipeline.entry 0)) ())) Φ := by
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) Prog.ret) from rfl]
  refine BI.Entails.trans ?_ ((K (F := F)).wp_liftProg (D (F := F)) 𝒱 (d.tc : Thread nD τ) Set.univ none _ Φ)
  have h := Pipeline.RegionSeg.wp (pcfgs (F := F)) adm (Stats.pdats (at' V) O b) none cells_inj EP defs₀ 𝒱₀ (K (F := F)).L (K (F := F)).lev
    (Stats.region (at' V) O b (at' (afterStats V)) (fun _ => BI.emp) hO (fun c => afterStats_scores V c) (fun c => afterStats_max V c)
      (fun c => afterStats_sum V c) (fun c => afterStats_copy V c) (fun c r h0 h1 h2 h3 => afterStats_ne V c r h0 h1 h2 h3)) d none (fun _ h => nomatch h) Prog.ret Φ
  refine BI.Entails.trans ?_ h
  show iprop(_ ∗ boundary (d.tc : Thread nD τ) ∗ held (d.tc : Thread nD τ) ucRefs (V d) ∗ debt O b d ∗ levAts (K (F := F)).L (K (F := F)).lev ∗ fuel 0 d)
    ⊢ iprop((iprop(boundary (d.tc : Thread nD τ) ∗ (unscopedBufs d (fun r => afterStats V d (rf r)) ∗ BI.emp ∗ debt O b d)) -∗ _)
        ∗ _ ∗ (unscopedBufs d (fun r => V d (rf r)) ∗ BI.emp ∗ debt O b d) ∗ _ ∗ _ ∗ _)
  rw [unscoped_held, unscoped_held]; unfold fuel
  iintro ⟨Hk, Hb, Hh, HO, Hl, Hg, Ht⟩
  isplitl [Hk]
  · iintro ⟨Hb, Hh, -, HO⟩
    rw [wp_ret]; imodintro
    iapply Hk
    isplitl [Hb]; · iexact Hb
    isplitl [Hh] <;> iassumption
  isplitl [Hb]; · iexact Hb
  isplitl [Hh HO]
  · isplitl [Hh]; · iexact Hh
    isplitr; · iempintro
    iexact HO
  isplitl [Hl]; · iexact Hl
  isplitl [Hg] <;> iassumption

/-- The pooling kernel at the head of @main. -/
theorem pool_step (hO : ∀ g, O g none = 0) (Φ : PUnit → sProp (Mo F)) :
    iprop((iprop(boundary (d.tc : Thread nD τ) ∗ held (d.tc : Thread nD τ) ucRefs (afterPool V d) ∗ debt O b d) -∗ Φ ⟨⟩)
        ∗ boundary (d.tc : Thread nD τ) ∗ held (d.tc : Thread nD τ) ucRefs (V d) ∗ debt O b d ∗ levAts (K (F := F)).L (K (F := F)).lev ∗ fuel 1 d)
      ⊢ wp frame (wpE ((K (F := F)).defs (D (F := F))) 𝒱 (d.tc : Thread nD τ) none) Set.univ
          (Prog.lift (.customCall (SparseCore.inner (Pipeline.entry 1)) ())) Φ := by
  rw [show (Prog.lift (.customCall (SparseCore.inner (Pipeline.entry 1)) ()) : Prog (TpuEff nD τ sig (Elt F) (SparseCore.Sig (ΛP (F := F)) 1) .tc) PUnit)
    = SparseCore.liftProg (.op (.customCall (Pipeline.entry 1) ()) Prog.ret) from rfl]
  refine BI.Entails.trans ?_ ((K (F := F)).wp_liftProg (D (F := F)) 𝒱 (d.tc : Thread nD τ) Set.univ none _ Φ)
  have h := Pipeline.RegionSeg.wp (pcfgs (F := F)) adm (Pool.pdats (at' V) O b) none cells_inj EP defs₀ 𝒱₀ (K (F := F)).L (K (F := F)).lev
    (Pool.region (at' V) O b (at' (afterPool V)) (fun _ => BI.emp) hO (fun c => afterPool_out V c)
      (fun c r h => afterPool_ne V c r h)) d none (fun _ h => nomatch h) Prog.ret Φ
  refine BI.Entails.trans ?_ h
  show iprop(_ ∗ boundary (d.tc : Thread nD τ) ∗ held (d.tc : Thread nD τ) ucRefs (V d) ∗ debt O b d ∗ levAts (K (F := F)).L (K (F := F)).lev ∗ fuel 1 d)
    ⊢ iprop((iprop(boundary (d.tc : Thread nD τ) ∗ (unscopedBufs d (fun r => afterPool V d (rf r)) ∗ BI.emp ∗ debt O b d)) -∗ _)
        ∗ _ ∗ (unscopedBufs d (fun r => V d (rf r)) ∗ BI.emp ∗ debt O b d) ∗ _ ∗ _ ∗ _)
  rw [unscoped_held, unscoped_held]; unfold fuel
  iintro ⟨Hk, Hb, Hh, HO, Hl, Hg, Ht⟩
  isplitl [Hk]
  · iintro ⟨Hb, Hh, -, HO⟩
    rw [wp_ret]; imodintro
    iapply Hk
    isplitl [Hb]; · iexact Hb
    isplitl [Hh] <;> iassumption
  isplitl [Hb]; · iexact Hb
  isplitl [Hh HO]
  · isplitl [Hh]; · iexact Hh
    isplitr; · iempintro
    iexact HO
  isplitl [Hl]; · iexact Hl
  isplitl [Hg] <;> iassumption
end

/-! ## The SparseCore kernel's arrays out of the device's -/

/-- The SparseCore kernel's five arrays. -/
def scRefs : Finset (DevRef τ sig) := {rf main_v5, rf main_v7, rf main_v8, rf main_v9, rf main_v10}

theorem scRefs_sub : scRefs ⊆ ucRefs := by decide

theorem held_sc (d : Dev nD) (V : Valuation τ sig (Elt F)) :
    (held (d.tc : Thread nD τ) scRefs V : sProp (Mo F))
      = Tile.five d (V (rf main_v5)) (V (rf main_v7)) (V (rf main_v8)) (V (rf main_v9)) (V (rf main_v10)) := by
  unfold StableHlo.held scRefs Tile.five
  rw [SparseCore.bigSep_insert' (by decide), SparseCore.bigSep_insert' (by decide), SparseCore.bigSep_insert' (by decide),
    SparseCore.bigSep_insert' (by decide), bigSep_singleton]

/-- The device's arrays but those five. -/
def rest (d : Dev nD) (V : Valuation τ sig (Elt F)) : sProp (Mo F) := held (d.tc : Thread nD τ) (ucRefs \ scRefs) V

/-- Before the SparseCore call: its five arrays, and the rest. -/
theorem sc_out (d : Dev nD) (V : Valuation τ sig (Elt F)) :
    (held (d.tc : Thread nD τ) ucRefs V : sProp (Mo F))
      = iprop(Tile.five d (V (rf main_v5)) (V (rf main_v7)) (V (rf main_v8)) (V (rf main_v9)) (V (rf main_v10)) ∗ rest d V) := by
  rw [held_sub_split _ scRefs_sub, held_sc]; rfl

theorem out_mem : rf main_v10 ∈ scRefs := by decide

theorem rest_soft (d : Dev nD) (V : Dev nD → Valuation τ sig (Elt F)) : (rest d (afterSoft V d) : sProp (Mo F)) = rest d (V d) := by
  unfold rest
  refine held_congr _ fun b hb => ?_
  have hne : b ≠ rf main_v10 := fun e => (Finset.mem_sdiff.mp hb).2 (by rw [e]; exact out_mem)
  unfold afterSoft
  exact Function.update_of_ne hne _ _

/-- After it: the five, the result at the kernel's values, and the rest as before. -/
theorem sc_in (d : Dev nD) (V : Dev nD → Valuation τ sig (Elt F)) :
    (held (d.tc : Thread nD τ) ucRefs (afterSoft V d) : sProp (Mo F))
      = iprop(Tile.five d (V d (rf main_v5)) (V d (rf main_v7)) (V d (rf main_v8)) (V d (rf main_v9))
          (Tile.soft (V d (rf main_v5)) (V d (rf main_v7)) (V d (rf main_v8)) (V d (rf main_v9))) ∗ rest d (V d)) := by
  rw [sc_out, afterSoft_out, afterSoft_ne V d main_v5 (by decide), afterSoft_ne V d main_v7 (by decide), afterSoft_ne V d main_v8 (by decide), afterSoft_ne V d main_v9 (by decide), rest_soft]

end Cert.Seg

end
-- ==== Proof.Run.lean ====
/-
  The whole program's run, at any float values: every weakly fair execution of its threads terminates with the arguments
  unchanged, every semaphore at zero, and the result at what the three kernels make of the arguments, one after another.
-/
module

public import proofs.«01_k».proof.Proof.Steps

@[expose] public section

noncomputable section

namespace Cert.Seg

open Cert.KernelIdeal Cert.KernelIdeal.Gen
open Idealize.ShloMosaic
open Idealize.ShloMosaic.TcCoe
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Seg.Tile (coordsV go soft)

variable {F : FTy → Type} [FloatOps F]

/-! ## @main's host operations, and the arrays after each part of @main -/

abbrev opIds : HloOp τ sig (Elt F) := StableHlo.reshape main_arg1 main_v0 (rfl : (.i32 : EltTy) = .i32) shapeCasts_S50000_S10x1x5000
abbrev opQuery : HloOp τ sig (Elt F) := StableHlo.reshape main_arg2 main_v1 (rfl : (.f32 : EltTy) = .f32) shapeCasts_S512_S1x512
abbrev opFlat : HloOp τ sig (Elt F) := StableHlo.reshape main_v2_0 main_v3 (rfl : (.f32 : EltTy) = .f32) shapeCasts_S10x1x5000_S50000
abbrev opZero : HloOp τ sig (Elt F) := StableHlo.nullary main_cst (constant S_ .f32 0x00000000#32)
abbrev opTail : HloOp τ sig (Elt F) :=
  StableHlo.unary main_cst main_v4 (broadcastInDim S176 ![] bcast_S_S176 : (⟨S_, .f32⟩ : BufTy).Contents (Elt F) → (⟨S176, .f32⟩ : BufTy).Contents (Elt F))
abbrev opScores : HloOp τ sig (Elt F) :=
  StableHlo.binary main_v3 main_v4 main_v5 ((fun a b => concatenate S50176 0 [⟨S50000, a⟩, ⟨S176, b⟩] concatenates_S50000_S176_S50176_d0) : (⟨S50000, .f32⟩ : BufTy).Contents (Elt F) → (⟨S176, .f32⟩ : BufTy).Contents (Elt F) → (⟨S50176, .f32⟩ : BufTy).Contents (Elt F))
abbrev opZeroI : HloOp τ sig (Elt F) := StableHlo.nullary main_c (constantI S_ 32 0#32)
abbrev opTailI : HloOp τ sig (Elt F) :=
  StableHlo.unary main_c main_v6 (broadcastInDim S176 ![] bcast_S_S176 : (⟨S_, .i32⟩ : BufTy).Contents (Elt F) → (⟨S176, .i32⟩ : BufTy).Contents (Elt F))
abbrev opIdsPad : HloOp τ sig (Elt F) :=
  StableHlo.binary main_arg1 main_v6 main_v7 ((fun a b => concatenate S50176 0 [⟨S50000, a⟩, ⟨S176, b⟩] concatenates_S50000_S176_S50176_d0) : (⟨S50000, .i32⟩ : BufTy).Contents (Elt F) → (⟨S176, .i32⟩ : BufTy).Contents (Elt F) → (⟨S50176, .i32⟩ : BufTy).Contents (Elt F))
abbrev opMax : HloOp τ sig (Elt F) := StableHlo.reshape main_v2_1 main_v8 (rfl : (.f32 : EltTy) = .f32) shapeCasts_S256x1_S256
abbrev opSum : HloOp τ sig (Elt F) := StableHlo.reshape main_v2_2 main_v9 (rfl : (.f32 : EltTy) = .f32) shapeCasts_S256x1_S256
abbrev opSlice : HloOp τ sig (Elt F) :=
  StableHlo.unary main_v10 main_v11 ((extractStridedSlice S50000 ![0] · slices_S50176_S50000_0) : (⟨S50176, .f32⟩ : BufTy).Contents (Elt F) → (⟨S50000, .f32⟩ : BufTy).Contents (Elt F))
abbrev opBlocks : HloOp τ sig (Elt F) := StableHlo.reshape main_v11 main_v12 (rfl : (.f32 : EltTy) = .f32) shapeCasts_S50000_S10x1x5000

variable (m : (ℓ : Loc nD τ sig) → Buf (Elt F) ℓ) (ρ : Dev nD → PrngReg)

/-- At the launch. -/
def V0 (d : Dev nD) : Valuation τ sig (Elt F) := fun b => m (d, b)
/-- Before the statistics kernel. -/
def V1 (d : Dev nD) : Valuation τ sig (Elt F) := (opQuery (F := F)).result ((opIds (F := F)).result (V0 m d))
/-- After it. -/
def V2 (d : Dev nD) : Valuation τ sig (Elt F) := afterStats (V1 m) d
/-- Before the SparseCore kernel. -/
def V3 (d : Dev nD) : Valuation τ sig (Elt F) :=
  (opSum (F := F)).result ((opMax (F := F)).result ((opIdsPad (F := F)).result ((opTailI (F := F)).result ((opZeroI (F := F)).result
    ((opScores (F := F)).result ((opTail (F := F)).result ((opZero (F := F)).result ((opFlat (F := F)).result (V2 m d)))))))))
/-- After it. -/
def V4 (d : Dev nD) : Valuation τ sig (Elt F) := afterSoft (V3 m) d
/-- Before the pooling kernel. -/
def V5 (d : Dev nD) : Valuation τ sig (Elt F) := (opBlocks (F := F)).result ((opSlice (F := F)).result (V4 m d))
/-- After it. -/
def V6 (d : Dev nD) : Valuation τ sig (Elt F) := afterPool (V5 m) d

/-! ## What the SparseCore call's handshakes carry -/

/-- What a tile is handed, from the arrays as the call finds them. -/
def before (d : Dev nD) (L : grid1.Coords) : sProp (Mo F) :=
  go d L (V3 m d (rf main_v5)) (V3 m d (rf main_v7)) (V3 m d (rf main_v8)) (V3 m d (rf main_v9)) (V3 m d (rf main_v10))
/-- What it gives back: its stretch of the result computed. -/
def after (d : Dev nD) (L : grid1.Coords) : sProp (Mo F) :=
  go d L (V3 m d (rf main_v5)) (V3 m d (rf main_v7)) (V3 m d (rf main_v8)) (V3 m d (rf main_v9))
    (soft (V3 m d (rf main_v5)) (V3 m d (rf main_v7)) (V3 m d (rf main_v8)) (V3 m d (rf main_v9)))

instance before_storable (d : Dev nD) (L : grid1.Coords) : BI.Storable (upEmb : UEmb _ (Mo F)) (before m d L) := by unfold before go; infer_instance
instance after_storable (d : Dev nD) (L : grid1.Coords) : BI.Storable (upEmb : UEmb _ (Mo F)) (after m d L) := by unfold after go; infer_instance

/-- Every tile's part of the call's arrays, out and back. -/
def P : (K (F := F)).Pay (nD := nD) (Val := Elt F) (Name := ℕ) (U := UU) where
  st := fun q d c => match q with
    | 0 => bigSep Finset.univ fun i : Fin 16 => before m d (coordsV c i)
  dn := fun q d c => match q with
    | 0 => bigSep Finset.univ fun i : Fin 16 => after m d (coordsV c i)
  go := fun q d c i => match q with
    | 0 => before m d (coordsV c i)
  td := fun q d c i => match q with
    | 0 => after m d (coordsV c i)
  x := fun _ _ => iprop(emp)

instance P_storable : (P (F := F) m).IsStorable where
  st q d c := match q with
    | 0 => have := fun i : Fin 16 => before_storable m d (coordsV c i)
      BI.Storable.bigSep (upEmb : UEmb _ (Mo F)) Finset.univ fun i : Fin 16 => before m d (coordsV c i)
  dn q d c := match q with
    | 0 => have := fun i : Fin 16 => after_storable m d (coordsV c i)
      BI.Storable.bigSep (upEmb : UEmb _ (Mo F)) Finset.univ fun i : Fin 16 => after m d (coordsV c i)
  go q d c i := match q with
    | 0 => before_storable m d (coordsV c i)
  td q d c i := match q with
    | 0 => after_storable m d (coordsV c i)

/-- What the run asks of the launch memory: the ids the SparseCore kernel reads are below 256. -/
def IdsOk : Prop := ∀ (d : Dev nD) (j : S50176.Idx), (V3 m d (rf main_v7) j : BitVec 32).toNat < 256

theorem tile_defs (c : Fin τ.nSC) (s : Fin τ.nSub) :
    defs₀ (F := F) (.scVector c s) 1 ()
      = SparseCore.onTile hcore1 hsub1 (fun c s => cc1__sc_softmax_body (coordsV c s)
          Tile.aV (Memref.isWhole_whole _) Tile.iV (Memref.isWhole_whole _) Tile.mV (Memref.isWhole_whole _) Tile.sV (Memref.isWhole_whole _)
          Tile.oV (Memref.isWhole_whole _) Tile.bA (Memref.isWhole_whole _) Tile.bI (Memref.isWhole_whole _) Tile.bO (Memref.isWhole_whole _)
          Tile.bM (Memref.isWhole_whole _) Tile.bS (Memref.isWhole_whole _) cc1_scoped0 cc1_scoped1 cc1_scoped2 cc1_scoped3 cc1_scoped4) ⟨⟩ c s := rfl

omit [FloatOps F] in
/-- A task's recorded waits, as the launch states them. -/
theorem waits_weaken {t : Thread nD τ} {X Y Z : sProp (Mo F)} {O : CellTallies nD τ sig (HIx 1)} {W : Waits sig (HIx 1)} {q : Fin 1} :
    iprop(X ∗ Y ∗ Z ∗ ∃ W', ⌜∀ p ∈ W', p ∈ W ∨ p.2 = none⌝ ∗ owes t O W') ⊢ iprop(X ∗ Y ∗ Z ∗ ∃ W', ⌜∀ p ∈ W', p ∈ W ∨ p.2 = none ∨ p.2 = some q⌝ ∗ owes t O W') := by
  iintro ⟨HX, HY, HZ, %W', %h, HO⟩
  isplitl [HX]; · iexact HX
  isplitl [HY]; · iexact HY
  isplitl [HZ]; · iexact HZ
  iexists W'
  isplitr; · ipureintro; exact fun p hp => (h p hp).elim Or.inl fun e => Or.inr (Or.inl e)
  iexact HO

theorem tileObl (hok : IdsOk m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [tile_defs]; simp only [SparseCore.onTile, hc, and_self, ↓reduceDIte]
  exact (Tile.tile_body d (coordsV ⟨_, hc.1⟩ ⟨_, hc.2⟩) (V3 m d (rf main_v5)) (V3 m d (rf main_v7)) (V3 m d (rf main_v8)) (V3 m d (rf main_v9)) (V3 m d (rf main_v10))
    facts (hok d) O W hO).trans (wp_mono frame _ _ fun _ => waits_weaken)

/-- The sequencer hands each task its part and takes it back: nothing is to be done. -/
theorem vecSplit : (K (F := F)).VecSplit' (P m) 0 := by
  intro d c
  show (bigSep Finset.univ fun i : Fin 16 => before m d (coordsV c i))
    ⊢ |={Set.univ}=> iprop((bigSep Finset.univ fun i : Fin 16 => before m d (coordsV c i))
      ∗ ((bigSep Finset.univ fun i : Fin 16 => after m d (coordsV c i))
        -∗ (bigSep Finset.univ fun i : Fin 16 => after m d (coordsV c i))))
  iintro H; imodintro
  isplitl [H]; · iexact H
  iintro H; iexact H

/-! ## The launch element: the handshakes' rounds, and the two pipelines' cells -/

abbrev UPel : UP := initOf (Pipeline.cells (nD := nD) (τ := τ) (pinned (F := F)) cells_inj) (Pipeline.launchToks (pinned (F := F)) cells_inj)
def u₀ : UU := (initOf (K (F := F)).hsCells (K (F := F)).hsToks, (UPel (F := F), 1))

/-- What @main starts from besides the launch's own: both pipelines' fuel. -/
abbrev G (d : Dev nD) : sProp (Mo F) := iprop(fuel 0 d ∗ fuel 1 d)

omit [FloatOps F] in
theorem emp_sep_const {I : Type} (s : Finset I) : (bigSep s fun _ => iprop(emp)) = (iprop(emp) : sProp (Mo F)) := bigSep_emp_const s

omit [FloatOps F] in
/-- The element's two parts. -/
theorem u₀_parts (x : UH) (y : UP) : (ownU ((x, (y, 1)) : UU) : sProp (Mo F)) ⊢ iprop(BI.own (EH x) ∗ BI.own (EP y)) :=
  BI.own_op_elim ((uEmb (nD := nD) (sig := sig) (Ix := HIx 1) (Val := Elt F) (Name := ℕ) (U := UU) (Lvl := ℕ)).toEmb.op_of_mem
    (Prod.mk_mem_op (URA.mem_op_one x) (URA.mem_one_op (y, 1))))

theorem hu₀ : (ownU (u₀ (F := F)) : sProp (Mo F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (u₀_parts _ _) $$ Hu
  icases H with ⟨HH, HP⟩
  imod (Pipeline.fund_ghost (pinned (F := F)) EP cells_inj) $$ HP with ⟨Hg, Ht⟩
  imodintro
  isplitl [HH]; · iexact HH
  isplitr []
  · unfold G fuel
    rw [bigSep_sep', bigSep_sep', bigSep_sep']
    have two : ∀ (Φ : Fin 2 → sProp (Mo F)), bigSep Finset.univ Φ = iprop(Φ 0 ∗ Φ 1) := fun Φ => by
      rw [show (Finset.univ : Finset (Fin 2)) = {0, 1} by decide, SparseCore.bigSep_insert' (by decide), bigSep_singleton]
    simp only [two, bigSep_sep']
    icases Hg with ⟨Hg0, Hg1⟩
    icases Ht with ⟨Ht0, Ht1⟩
    isplitl [Hg0 Ht0]; · isplitl [Hg0] <;> iassumption
    isplitl [Hg1] <;> iassumption
  · unfold P; dsimp only
    rw [show (bigSep Finset.univ fun _ : Thread nD τ => bigSep Finset.univ fun _ : Fin 1 => (iprop(emp) : sProp (Mo F))) = iprop(emp) from by
      rw [bigSep_congr fun _ _ => emp_sep_const _, emp_sep_const]]
    iempintro

/-! ## @main on the TensorCore -/

/-- A host operation of @main over the device's arrays. -/
theorem host_step (d : Dev nD) {op : HloOp τ sig (Elt F)} (hS : op.bufs ⊆ ucRefs) (V : Valuation τ sig (Elt F)) (hf : op.fresh = ∅) (Φ : PUnit → sProp (Mo F)) :
    iprop((iprop(boundary (d.tc : Thread nD τ) ∗ held (d.tc : Thread nD τ) ucRefs (op.result V)) -∗ Φ ⟨⟩)
        ∗ boundary (d.tc : Thread nD τ) ∗ held (d.tc : Thread nD τ) ucRefs V)
      ⊢ wp frame (wpE ((K (F := F)).defs (D (F := F))) 𝒱 (d.tc : Thread nD τ) none) Set.univ (hlo rfl op fun _ => .ret ⟨⟩) Φ := by
  iintro ⟨Hk, Hb, Hh⟩
  iapply (wp_hlo_within 𝒱 (d.tc : Thread nD τ) none Set.univ (op := op) (S := ucRefs) hS (V := V) hf) $$ [Hb Hh]
  · isplitl [Hb] <;> iassumption
  iintro H
  rw [wp_ret]; imodintro
  iapply Hk; iexact H

/-- The TensorCore's handshake state but what it owes. -/
def tail (d : Dev nD) (n : ℕ) : sProp (Mo F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp (Mo F)) = iprop(debt ((K (F := F)).Otc d n) (8 * n) d ∗ tail d n) := rfl

/-- The TensorCore owes nothing at the waits of its own kernels. -/
theorem otc_none (d : Dev nD) (n : ℕ) (g : GSem nD τ sig) : (K (F := F)).Otc (N := 1) d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply, if_neg fun h => nomatch h.2]
  · rfl

/-- What @main leaves: the device's arrays at their final contents. -/
abbrev FIN (d : Dev nD) : sProp (Mo F) := held (d.tc : Thread nD τ) ucRefs (V6 m d)

theorem st_eq (d : Dev nD) : (bigSep Finset.univ fun c : Fin ((K (F := F)).nCore 0) => (P m).st 0 d c)
    = bigSep Finset.univ fun c : Fin 2 => bigSep Finset.univ fun i : Fin 16 => before m d (coordsV c i) := rfl
theorem dn_eq (d : Dev nD) : (bigSep Finset.univ fun c : Fin ((K (F := F)).nCore 0) => (P m).dn 0 d c)
    = bigSep Finset.univ fun c : Fin 2 => bigSep Finset.univ fun i : Fin 16 => after m d (coordsV c i) := rfl

/-- The SparseCore call at the head of @main. -/
theorem sc_step (κ : GSem nD τ sig → ℕ) (d : Dev nD) (Φ : PUnit → sProp (Mo F)) :
    iprop((K (F := F)).ctx EH (P m) κ ∗ (K (F := F)).tcSt EH d 0 ∗ held (d.tc : Thread nD τ) ucRefs (V3 m d)
        ∗ (iprop((K (F := F)).tcSt EH d 1 ∗ held (d.tc : Thread nD τ) ucRefs (V4 m d)) -∗ Φ ⟨⟩))
      ⊢ wp frame (wpE ((K (F := F)).defs (D (F := F))) 𝒱 (SparseCore.T d) none) Set.univ ((K (F := F)).run d 0) Φ := by
  unfold V4
  rw [sc_in, sc_out]
  iintro ⟨#Hctx, Hst, ⟨H5, Hrest⟩, Hk⟩
  ihave H := (Tile.deal d _ _ _ _ _) $$ H5
  icases H with ⟨Hleft, Hgo⟩
  iapply ((K (F := F)).wp_run (D (F := F)) 𝒱 (EH := EH) (P := P m) κ d 0) $$ [Hst Hrest Hk Hleft Hgo]
  isplitr; · iexact Hctx
  isplitl [Hst]; · iexact Hst
  isplitl [Hgo]; · rw [st_eq]; iexact Hgo
  iintro ⟨Hst, Hdn⟩
  ihave Hdn := (Entails.of_eq (dn_eq m d)) $$ Hdn
  iapply Hk
  isplitl [Hst]; · iexact Hst
  isplitr [Hrest]
  · iapply (Tile.collect d _ _ _ _ _)
    isplitl [Hleft]; · iexact Hleft
    iexact Hdn
  iexact Hrest

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (Mo F)) = held (d.tc : Thread nD τ) ucRefs (V0 m d) from unscoped_held d (V0 m d)]
  simp only [main, wp_bind, wp_pure]
  iintro ⟨#Hctx, Hst, ⟨Hb, Hh, Hts, -⟩, Hf0, Hf1⟩
  ihave Hlev := (SparseCore.Cfg.ctx_levAts κ) $$ Hctx
  iapply (host_step d (op := opIds) (show ({rf main_arg1, rf main_v0} : Finset (DevRef τ sig)) ⊆ ucRefs by decide) (V0 m d) rfl)
  isplitr [Hb Hh]; swap; · isplitl [Hb] <;> iassumption
  iintro ⟨Hb, Hh⟩
  iapply (host_step d (op := opQuery) (show ({rf main_arg2, rf main_v1} : Finset (DevRef τ sig)) ⊆ ucRefs by decide) _ rfl)
  isplitr [Hb Hh]; swap; · isplitl [Hb] <;> iassumption
  iintro ⟨Hb, Hh⟩
  ihave Hst := (Entails.of_eq (tcSt_eq d 0)) $$ Hst
  icases Hst with ⟨HO, Htail⟩
  iapply (stats_step (V1 m) ((K (F := F)).Otc d 0) (8 * 0) d (otc_none d 0))
  isplitr [Hb Hh HO Hlev Hf0]; swap
  · isplitl [Hb]; · iexact Hb
    isplitl [Hh]; · iexact Hh
    isplitl [HO]; · iexact HO
    isplitl [Hlev] <;> iassumption
  iintro ⟨Hb, Hh, HO⟩
  iapply (host_step d (op := opFlat) (show ({rf main_v2_0, rf main_v3} : Finset (DevRef τ sig)) ⊆ ucRefs by decide) _ rfl)
  isplitr [Hb Hh]; swap; · isplitl [Hb] <;> iassumption
  iintro ⟨Hb, Hh⟩
  iapply (host_step d (op := opZero) (show ({rf main_cst} : Finset (DevRef τ sig)) ⊆ ucRefs by decide) _ rfl)
  isplitr [Hb Hh]; swap; · isplitl [Hb] <;> iassumption
  iintro ⟨Hb, Hh⟩
  iapply (host_step d (op := opTail) (show ({rf main_cst, rf main_v4} : Finset (DevRef τ sig)) ⊆ ucRefs by decide) _ rfl)
  isplitr [Hb Hh]; swap; · isplitl [Hb] <;> iassumption
  iintro ⟨Hb, Hh⟩
  iapply (host_step d (op := opScores) (show ({rf main_v3, rf main_v4, rf main_v5} : Finset (DevRef τ sig)) ⊆ ucRefs by decide) _ rfl)
  isplitr [Hb Hh]; swap; · isplitl [Hb] <;> iassumption
  iintro ⟨Hb, Hh⟩
  iapply (host_step d (op := opZeroI) (show ({rf main_c} : Finset (DevRef τ sig)) ⊆ ucRefs by decide) _ rfl)
  isplitr [Hb Hh]; swap; · isplitl [Hb] <;> iassumption
  iintro ⟨Hb, Hh⟩
  iapply (host_step d (op := opTailI) (show ({rf main_c, rf main_v6} : Finset (DevRef τ sig)) ⊆ ucRefs by decide) _ rfl)
  isplitr [Hb Hh]; swap; · isplitl [Hb] <;> iassumption
  iintro ⟨Hb, Hh⟩
  iapply (host_step d (op := opIdsPad) (show ({rf main_arg1, rf main_v6, rf main_v7} : Finset (DevRef τ sig)) ⊆ ucRefs by decide) _ rfl)
  isplitr [Hb Hh]; swap; · isplitl [Hb] <;> iassumption
  iintro ⟨Hb, Hh⟩
  iapply (host_step d (op := opMax) (show ({rf main_v2_1, rf main_v8} : Finset (DevRef τ sig)) ⊆ ucRefs by decide) _ rfl)
  isplitr [Hb Hh]; swap; · isplitl [Hb] <;> iassumption
  iintro ⟨Hb, Hh⟩
  iapply (host_step d (op := opSum) (show ({rf main_v2_2, rf main_v9} : Finset (DevRef τ sig)) ⊆ ucRefs by decide) _ rfl)
  isplitr [Hb Hh]; swap; · isplitl [Hb] <;> iassumption
  iintro ⟨Hb, Hh⟩
  iapply (sc_step m κ d)
  isplitr; · iexact Hctx
  isplitl [HO Htail]
  · rw [tcSt_eq]; isplitl [HO] <;> iassumption
  isplitl [Hh]; · iexact Hh
  iintro ⟨Hst, Hh⟩
  iapply (host_step d (op := opSlice) (show ({rf main_v10, rf main_v11} : Finset (DevRef τ sig)) ⊆ ucRefs by decide) _ rfl)
  isplitr [Hb Hh]; swap; · isplitl [Hb] <;> iassumption
  iintro ⟨Hb, Hh⟩
  iapply (host_step d (op := opBlocks) (show ({rf main_v11, rf main_v12} : Finset (DevRef τ sig)) ⊆ ucRefs by decide) _ rfl)
  isplitr [Hb Hh]; swap; · isplitl [Hb] <;> iassumption
  iintro ⟨Hb, Hh⟩
  ihave Hst := (Entails.of_eq (tcSt_eq d 1)) $$ Hst
  icases Hst with ⟨HO, Htail⟩
  ihave Hlev := (SparseCore.Cfg.ctx_levAts κ) $$ Hctx
  iapply (pool_step (V5 m) ((K (F := F)).Otc d 1) (8 * 1) d (otc_none d 1))
  isplitr [Hb Hh HO Hlev Hf1]; swap
  · isplitl [Hb]; · iexact Hb
    isplitl [Hh]; · iexact Hh
    isplitl [HO]; · iexact HO
    isplitl [Hlev] <;> iassumption
  iintro ⟨Hb, Hh, HO⟩
  imodintro
  isplitl [HO Htail]
  · rw [tcSt_eq]; isplitl [HO] <;> iassumption
  isplitl [Hh]; · iexact Hh
  isplitl [Hb] <;> iassumption

/-- What the final memory then holds on device `d`. -/
def fq (d : Dev nD) (s' : Phys nD τ sig (Elt F)) : Prop := ∀ b ∈ ucRefs, s'.mem.mem (d, b) = V6 m d b

theorem hfin (d : Dev nD) (s' : Phys nD τ sig (Elt F)) : iprop(FIN m d ∗ SI s') ⊢ (⌜fq m d s'⌝ : sProp (Mo F)) := by
  have h : ∀ b, iprop(FIN m d ∗ SI s') ⊢ (⌜b ∈ ucRefs → s'.mem.mem (d, b) = V6 m d b⌝ : sProp (Mo F)) := fun b => by
    by_cases hb : b ∈ ucRefs
    · iintro ⟨Hh, HSI⟩
      ihave Hx := (show held (d.tc : Thread nD τ) ucRefs (V6 m d) ⊢ (((d, b) : Loc nD τ sig) ↦{fullShare} V6 m d b : sProp (Mo F)) from bigSep_elim hb) $$ Hh
      ihave H := (SI_pointsTo_agree (st := s') (ℓ := ((d, b) : Loc nD τ sig)) (I := Finset.univ) (q := fullShare) (f := V6 m d b)) $$ [HSI Hx]
      · isplitl [HSI] <;> iassumption
      icases H with %hx
      ipureintro; exact fun _ => funext fun i => hx i (Finset.mem_univ i)
    · iintro -
      ipureintro; exact fun h => absurd h hb
  exact (forall_intro h).trans (pure_forall (φ := fun b => b ∈ ucRefs → s'.mem.mem (d, b) = V6 m d b)).2

/-! ## The run -/

/-- The final memory: every unscoped array of every device at its final contents, every semaphore at zero. -/
def Final : PUnit × MemSt nD τ sig (Elt F) → Prop :=
  fun r => (∀ (c : Dev nD), ∀ b ∈ ucRefs, r.2.mem (c, b) = V6 m c b) ∧ r.2.sem = fun _ => 0

/-- Every weakly fair execution terminates so, if the ids are below 256. -/
theorem run_final [∀ e, Nonempty (Elt F e)] (hok : IdsOk m) : θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hok)
    (fun q _ => match q with | 0 => SparseCore.Cfg.VecSplit.of_plain (vecSplit m))
    m ρ main G (FIN m) (u₀ (F := F)) (sep_elim_left.trans (hu₀ m)) (hmain m ρ) (fq m) (hfin m) (Final m) (fun _ h hz => ⟨h, hz⟩)

end Cert.Seg

end
-- ==== Proof.Same.lean ====
/-
  The two copies of the program (as written, and as read over the extended reals) have one text, so their tables of kernel
  bodies are equal. They are compared label by label.
-/
module

public import proofs.«01_k».proof.Proof.Gen.KernelIdeal
public import proofs.«01_k».proof.Proof.Gen.Kernel
@[expose] public section
noncomputable section
namespace Cert.Seg
open Idealize.ShloMosaic

variable {F : FTy → Type} [FloatOps F]
set_option maxHeartbeats 4000000 in
/-- A TensorCore's bodies. -/
theorem tc_same (l : Fin 3) (a : Cert.KernelIdeal.Λ₀.Args l) : Cert.Kernel.defs₀ (F := F) .tc l a = Cert.KernelIdeal.defs₀ (F := F) .tc l a := by
  match l, a with
  | 0, (t, s) => rfl
  | 1, a => rfl
  | 2, (t, s) => rfl

set_option maxHeartbeats 4000000 in
/-- A vector subcore's. -/
theorem tile_same (c s) (l : Fin 3) (a : Cert.KernelIdeal.Λ₀.Args l) : Cert.Kernel.defs₀ (F := F) (.scVector c s) l a = Cert.KernelIdeal.defs₀ (F := F) (.scVector c s) l a := by
  match l, a with
  | 0, a => rfl
  | 1, a => rfl
  | 2, a => rfl

set_option maxHeartbeats 4000000 in
/-- A scalar subcore's. -/
theorem scalar_same (c) (l : Fin 3) (a : Cert.KernelIdeal.Λ₀.Args l) : Cert.Kernel.defs₀ (F := F) (.scScalar c) l a = Cert.KernelIdeal.defs₀ (F := F) (.scScalar c) l a := by
  match l, a with
  | 0, a => rfl
  | 1, a => rfl
  | 2, a => rfl

/-- The kernels' bodies. -/
theorem defs₀_same : Cert.Kernel.defs₀ (F := F) = Cert.KernelIdeal.defs₀ (F := F) := by
  funext p l a
  cases p with
  | tc => exact tc_same l a
  | scScalar c => exact scalar_same c l a
  | scVector c s => exact tile_same c s l a

/-- And with them the whole tables. -/
theorem defs_same : Cert.Kernel.defs (F := F) = Cert.KernelIdeal.defs (F := F) := by
  unfold Cert.Kernel.defs Cert.KernelIdeal.defs
  exact congrArg (fun D => (Cert.KernelIdeal.sc (F := F)).defs (Pipeline.defs (Cert.KernelIdeal.pcfgs (F := F)) D)) defs₀_same
end Cert.Seg
end
-- ==== Proof.Frames.lean ====
/-
  The frame claims: both copies of the program and the reference run to completion, leave their arguments as they found
  them and every semaphore at zero. The program's run needs the ids in range (its tiles read two tables at them), which
  the precondition states.
-/
module

public import proofs.«01_k».proof.Proof.Run
public import proofs.«01_k».proof.Proof.Same
public import proofs.«01_k».proof.Defs
public import proofs.«01_k».proof.Proof.Gen.Kernel
public import proofs.«01_k».proof.Proof.Gen.ReferenceIdeal.Run
public import proofs.«01_k».proof.Proof.Gen.Pre_ids_in_range
public import Idealize.ShloMosaic.Lib.ReduceAll
public import Idealize.ShloMosaic.Lib.Affine
public import Idealize.ShloMosaic.Lib.Pipeline.Value

@[expose] public section

noncomputable section

namespace Cert.Seg

open Cert.KernelIdeal Cert.KernelIdeal.Gen
open Idealize.ShloMosaic
open Idealize.ShloMosaic.TcCoe

variable {F : FTy → Type} [FloatOps F]
variable (m : (ℓ : Loc nD τ sig) → Buf (Elt F) ℓ)

/-! ## The arrays between the kernels -/

/-- The two reshapes before the statistics kernel write only their own results. -/
theorem V1_ne (d : Dev nD) (r : Ref sig .tc) (h0 : r ≠ main_v0) (h1 : r ≠ main_v1) : V1 m d (rf r) = V0 m d (rf r) := by
  unfold V1
  rw [StableHlo.reshape_result_ne, StableHlo.reshape_result_ne] <;> assumption

/-- So do the nine operations before the SparseCore kernel. -/
theorem V3_ne (d : Dev nD) (r : Ref sig .tc) (h3 : r ≠ main_v3) (hc : r ≠ main_cst) (h4 : r ≠ main_v4) (h5 : r ≠ main_v5)
    (hi : r ≠ main_c) (h6 : r ≠ main_v6) (h7 : r ≠ main_v7) (h8 : r ≠ main_v8) (h9 : r ≠ main_v9) :
    V3 m d (rf r) = V2 m d (rf r) := by
  unfold V3
  rw [StableHlo.reshape_result_ne, StableHlo.reshape_result_ne, StableHlo.binary_result_ne, StableHlo.unary_result_ne,
    StableHlo.nullary_result_ne, StableHlo.binary_result_ne, StableHlo.unary_result_ne, StableHlo.nullary_result_ne,
    StableHlo.reshape_result_ne] <;> assumption

/-- And the two before the pooling kernel. -/
theorem V5_ne (d : Dev nD) (r : Ref sig .tc) (h1 : r ≠ main_v11) (h2 : r ≠ main_v12) : V5 m d (rf r) = V4 m d (rf r) := by
  unfold V5
  rw [StableHlo.reshape_result_ne, StableHlo.unary_result_ne] <;> assumption

/-- An array that no part of the program writes, before the SparseCore kernel. -/
theorem V3_arg (d : Dev nD) (r : Ref sig .tc) (h : r ∈ ({main_arg0, main_arg1, main_arg2, main_arg3, main_arg4} : Finset (Ref sig .tc))) :
    V3 m d (rf r) = V0 m d (rf r) := by
  have hs : ∀ r ∈ ({main_arg0, main_arg1, main_arg2, main_arg3, main_arg4} : Finset (Ref sig .tc)),
      r ∉ ({main_v0, main_v1, main_v2_0, main_v2_1, main_v2_2, main_v2_3, main_v3, main_cst, main_v4, main_v5, main_c, main_v6, main_v7, main_v8, main_v9} : Finset (Ref sig .tc)) := by decide
  have hr := hs r h
  simp only [Finset.mem_insert, Finset.mem_singleton, not_or] at hr
  obtain ⟨a0, a1, b0, b1, b2, b3, c3, cc, c4, c5, ci, c6, c7, c8, c9⟩ := hr
  rw [V3_ne m d r c3 cc c4 c5 ci c6 c7 c8 c9, V2, afterStats_ne _ _ _ b0 b1 b2 b3, V1_ne m d r a0 a1]

/-- And at the end: the program leaves its five arguments as it found them. -/
theorem V6_arg (d : Dev nD) (r : Ref sig .tc) (h : r ∈ ({main_arg0, main_arg1, main_arg2, main_arg3, main_arg4} : Finset (Ref sig .tc))) :
    V6 m d (rf r) = V0 m d (rf r) := by
  have hs : ∀ r ∈ ({main_arg0, main_arg1, main_arg2, main_arg3, main_arg4} : Finset (Ref sig .tc)),
      r ∉ ({main_v10, main_v11, main_v12, main_v13} : Finset (Ref sig .tc)) := by decide
  have hr := hs r h
  simp only [Finset.mem_insert, Finset.mem_singleton, not_or] at hr
  obtain ⟨a, b, c, e⟩ := hr
  rw [V6, afterPool_ne _ _ _ e, V5_ne m d r b c, V4, afterSoft_ne _ _ _ a, V3_arg m d r h]

/-! ## What the operations between the kernels make -/

/-- The ids the SparseCore kernel reads: the argument's, then zeros. -/
theorem V3_ids (d : Dev nD) :
    V3 m d (rf main_v7) = (concatenate S50176 0 [⟨S50000, (V0 m d (rf main_arg1) : IVec S50000 32)⟩,
      ⟨S176, broadcastInDim S176 ![] bcast_S_S176 (constantI S_ 32 0#32)⟩] concatenates_S50000_S176_S50176_d0 : IVec S50176 32) := by
  have e : V2 m d (rf main_arg1) = V0 m d (rf main_arg1) := by
    rw [V2, afterStats_ne _ _ _ (by decide) (by decide) (by decide) (by decide), V1_ne m d _ (by decide) (by decide)]
  have e3 : V3 m d (rf main_v7) = (concatenate S50176 0 [⟨S50000, (V2 m d (rf main_arg1) : IVec S50000 32)⟩,
      ⟨S176, broadcastInDim S176 ![] bcast_S_S176 (constantI S_ 32 0#32)⟩] concatenates_S50000_S176_S50176_d0 : IVec S50176 32) := by
    unfold V3
    after_results_simp
    exact congrArg₂ (fun (a : IVec S50000 32) (b : IVec S176 32) =>
        concatenate S50176 0 [⟨S50000, a⟩, ⟨S176, b⟩] concatenates_S50000_S176_S50176_d0)
      (by after_results_simp) (by after_results_simp)
  exact e3.trans (by rw [e])

/-- The scores it reads: the statistics kernel's, then zeros. -/
theorem V3_scores (d : Dev nD) :
    V3 m d (rf main_v5) = (concatenate S50176 0 [⟨S50000, shapeCast S50000 (V2 m d (rf main_v2_0)) shapeCasts_S10x1x5000_S50000⟩,
      ⟨S176, broadcastInDim S176 ![] bcast_S_S176 (constant S_ .f32 0x00000000#32)⟩] concatenates_S50000_S176_S50176_d0 : FVec F S50176 .f32) := by
  unfold V3
  after_results_simp
  exact congrArg₂ (fun (a : FVec F S50000 .f32) (b : FVec F S176 .f32) =>
      concatenate S50176 0 [⟨S50000, a⟩, ⟨S176, b⟩] concatenates_S50000_S176_S50176_d0)
    (by after_results_simp <;> rfl) (by after_results_simp)

/-- The maxima it reads. -/
theorem V3_max (d : Dev nD) : V3 m d (rf main_v8) = (shapeCast S256 (V2 m d (rf main_v2_1)) shapeCasts_S256x1_S256 : FVec F S256 .f32) := by
  unfold V3
  after_results_simp <;> rfl

/-- The sums it reads. -/
theorem V3_sum (d : Dev nD) : V3 m d (rf main_v9) = (shapeCast S256 (V2 m d (rf main_v2_2)) shapeCasts_S256x1_S256 : FVec F S256 .f32) := by
  unfold V3
  after_results_simp <;> rfl

/-- The weights the pooling kernel reads: the SparseCore kernel's, without the padding. -/
theorem V5_soft (d : Dev nD) :
    V5 m d (rf main_v12) = (shapeCast S10x1x5000 (extractStridedSlice S50000 ![0] (V4 m d (rf main_v10)) slices_S50176_S50000_0) shapeCasts_S50000_S10x1x5000 : FVec F S10x1x5000 .f32) := by
  unfold V5
  after_results_simp <;> rfl

/-- The ids by blocks, which both TensorCore kernels read. -/
theorem V1_ids (d : Dev nD) :
    V1 m d (rf main_v0) = (shapeCast S10x1x5000 (V0 m d (rf main_arg1)) shapeCasts_S50000_S10x1x5000 : IVec S10x1x5000 32) := by
  unfold V1
  after_results_simp <;> rfl

/-- The query as a row. -/
theorem V1_query (d : Dev nD) :
    V1 m d (rf main_v1) = (shapeCast S1x512 (V0 m d (rf main_arg2)) shapeCasts_S512_S1x512 : FVec F S1x512 .f32) := by
  unfold V1
  after_results_simp <;> rfl

/-- Every id of the padded array is in range when the argument's are. -/
theorem idsOk_of (h : ∀ (d : Dev nD) (i : S50000.Idx), (V0 m d (rf main_arg1) i : BitVec 32).toNat < 256) : IdsOk m := by
  intro d j
  rw [V3_ids]
  by_cases hj : (j 0).val < 50000
  · rw [concatenate_pair_apply_left (s₁ := S50000) (s₂ := S176) (t := S50176) (a := 0) (x₁ := (V0 m d (rf main_arg1) : IVec S50000 32)) (h := concatenates_S50000_S176_S50176_d0) (j := j) (x₂ := broadcastInDim S176 ![] bcast_S_S176 (constantI S_ 32 0#32)) rfl
      (fun b => ⟨(j 0).val, by obtain rfl : b = 0 := Subsingleton.elim _ _; exact hj⟩) (fun b => by obtain rfl : b = 0 := Subsingleton.elim _ _; rfl)]
    exact h d _
  · have hb : (j 0).val < 50176 := (j 0).isLt
    rw [concatenate_pair_apply_right (s₁ := S50000) (s₂ := S176) (t := S50176) (a := 0) (x₁ := (V0 m d (rf main_arg1) : IVec S50000 32)) (h := concatenates_S50000_S176_S50176_d0) (j := j) (x₂ := broadcastInDim S176 ![] bcast_S_S176 (constantI S_ 32 0#32)) rfl rfl
      (fun b => ⟨(j 0).val - 50000, by obtain rfl : b = 0 := Subsingleton.elim _ _; show _ < 176; omega⟩) (fun b hb => absurd (Subsingleton.elim (α := Fin 1) b 0) (fun e => hb (by subst e; rfl)))
      (by show (j 0).val - 50000 + 50000 = (j 0).val; omega)]
    show (0#32 : BitVec 32).toNat < 256
    decide

/-! ## The preconditions read -/

theorem ids_word (w : BitVec 32) (h : IntOp.andi (IntOp.cmpi .sge w 0#32) (IntOp.cmpi .slt w 256#32) = 1#1) : w.toNat < 256 := by
  obtain ⟨h1, h2⟩ := IntOp.andi_eq_one.1 h
  have a := IntOp.cmpi_sge.1 h1
  have b := IntOp.cmpi_slt.1 h2
  simp only [BitVec.sle_eq_decide, BitVec.slt_eq_decide, decide_eq_true_eq, BitVec.toInt_eq_toNat_cond, BitVec.toNat_ofNat] at a b
  omega

/-- The precondition on the ids alone says that every one is below 256. -/
theorem ids_of_pre (a0 : FVec F S50000x512 .f32) (a1 : IVec S50000 32) (a2 : FVec F S512 .f32) (a3 a4 : FVec F S512x512 .f32)
    (h : ∀ j, Cert.Pre_ids_in_range.fn (F := F) a0 a1 a2 a3 a4 j = 1#1) (i : S50000.Idx) : (a1 i).toNat < 256 := by
  have hs : Subsingleton Cert.Pre_ids_in_range.S_.Idx := ⟨fun a b => funext fun k => Fin.elim0 k⟩
  have e := Host.reduce_andi_all _ _ _ _ _ (h (fun k => Fin.elim0 k)) i
  exact ids_word _ e

/-- A pair of single bits conjoined at the one index of a scalar. -/
theorem andi_bits {s : Shape} (x y : IVec s 1) (j : s.Idx) (h : andi x y j = 1#1) : x j = 1#1 ∧ y j = 1#1 :=
  IntOp.andi_eq_one.1 h

/-! ## The frame claims -/

/-- What a frame claims of the program's final memory, read off the run. -/
theorem frame_of (m : (ℓ : Loc nD τ sig) → Buf (Elt F) ℓ) (r : PUnit × MemSt nD τ sig (Elt F)) (h : Final m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.1 c (rf main_arg0) (by decide)).trans (V6_arg m c _ (by decide)), (h.1 c (rf main_arg1) (by decide)).trans (V6_arg m c _ (by decide)),
    (h.1 c (rf main_arg2) (by decide)).trans (V6_arg m c _ (by decide)), (h.1 c (rf main_arg3) (by decide)).trans (V6_arg m c _ (by decide)),
    (h.1 c (rf main_arg4) (by decide)).trans (V6_arg m c _ (by decide))⟩

/-- The program as it is written, over the machine's words: it runs, leaves its arguments, and every semaphore ends at zero. -/
theorem frame_kernel : Cert.quiescent_Kernel := by
  intro m ρ h
  have H : θ_run (Cert.KernelIdeal.defs (F := Bits)) (Cert.KernelIdeal.threads (F := Bits)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
    (θ_run Cert.KernelIdeal.defs _ _).mono (fun r hr => ⟨frame_of (F := Bits) m r hr, hr.2⟩)
      (run_final (F := Bits) m ρ (idsOk_of (F := Bits) m fun d i => ids_of_pre (F := Bits) _ _ _ _ _ (fun j => congrFun (h d) j) i))
  rw [← defs_same] at H
  exact H

/-- The same over the extended reals. -/
theorem frame_ideal : Cert.quiescent_KernelIdeal := fun m ρ h =>
  (θ_run Cert.KernelIdeal.defs _ _).mono (fun r hr => ⟨frame_of (F := Ideal) m r hr, hr.2⟩)
    (run_final (F := Ideal) m ρ (idsOk_of (F := Ideal) m fun d i => ids_of_pre (F := Ideal) _ _ _ _ _ (fun j => congrFun (h d) j) i))

/-- The reference runs, leaves its arguments, and declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Seg

end
-- ==== Proof.Finite.lean ====
/-
  What the precondition with finite floats says, and the frame claims under it.
-/
module

public import proofs.«01_k».proof.Proof.Frames
public import proofs.«01_k».proof.Proof.Gen.Pre_finite_in_range

@[expose] public section

noncomputable section

namespace Cert.Seg

open Cert.KernelIdeal Cert.KernelIdeal.Gen
open Idealize.ShloMosaic
open Idealize.ShloMosaic.TcCoe

/-- A float of the real line below infinity in magnitude is a real number. -/
theorem real_of_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  have h' : max x (-x) < ⊤ := by
    by_contra hn
    simp [Ideal.cmp, hn] at h
  induction x with
  | bot => simp at h'
  | top => simp at h'
  | coe r => exact ⟨r, rfl⟩

/-- What the precondition with finite floats says over the extended reals: every float of the rows and of the values' matrix is
    a real number, and every id is below 256. -/
theorem finite_of_pre (a0 : FVec Ideal S50000x512 .f32) (a1 : IVec S50000 32) (a2 : FVec Ideal S512 .f32) (a3 a4 : FVec Ideal S512x512 .f32)
    (h : ∀ j, Cert.Pre_finite_in_range.fn (F := Ideal) a0 a1 a2 a3 a4 j = 1#1) :
    (∀ i, ∃ r : ℝ, a0 i = (r : EReal)) ∧ (∀ i, (a1 i).toNat < 256) ∧ ∀ i, ∃ r : ℝ, a4 i = (r : EReal) := by
  have hs : Subsingleton Cert.Pre_finite_in_range.S_.Idx := ⟨fun a b => funext fun k => Fin.elim0 k⟩
  have h' := h (fun k => Fin.elim0 k)
  unfold Cert.Pre_finite_in_range.fn at h'
  obtain ⟨h', hid⟩ := andi_bits _ _ _ h'
  obtain ⟨h0, h4⟩ := andi_bits _ _ _ h'
  exact ⟨fun i => real_of_lt _ (Host.reduce_andi_all _ _ _ _ _ h0 i), fun i => ids_word _ (Host.reduce_andi_all _ _ _ _ _ hid i),
    fun i => real_of_lt _ (Host.reduce_andi_all _ _ _ _ _ h4 i)⟩

/-! ## The frame claims under it -/

/-- And under the precondition that also makes the floats finite. -/
theorem frame_ideal_finite : Cert.quiescent_KernelIdeal_pre_finite_in_range := fun m ρ h =>
  (θ_run Cert.KernelIdeal.defs _ _).mono (fun r hr => ⟨frame_of (F := Ideal) m r hr, hr.2⟩)
    (run_final (F := Ideal) m ρ (idsOk_of (F := Ideal) m fun d i => (finite_of_pre _ _ _ _ _ (fun j => congrFun (h d) j)).2.1 i))

/-- So it does under the precondition. -/
theorem frame_ref_finite : Cert.quiescent_ReferenceIdeal_pre_finite_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Seg

end
-- ==== Proof.Math.lean ====
/-
  The mathematics of a segment softmax taken block by block, over the extended reals: rows come in order, each with a
  segment `b i` and a score `sc i`, which may be infinite; the running maximum and the running sum of a segment over the
  first `n` rows, and how a block of `m` further rows changes them.
-/
module

public import Idealize.ShloMosaic.Lib.Pointwise

@[expose] public section

noncomputable section

namespace Cert.Seg.Math

open Idealize Idealize.ShloMosaic

/-- The greatest score of segment `g` among the first `n` rows; the least extended real if the segment has no row there. -/
def top (b : ℕ → ℕ) (sc : ℕ → EReal) (g n : ℕ) : EReal :=
  (Finset.range n).sup fun i => if b i = g then sc i else ⊥

/-- One row's term: the exponential of its score less the greatest one, which is a real number. -/
def term (a t : EReal) : ℝ := (Ideal.exp (a - t)).toReal

/-- The sum over segment `g`'s rows among the first `n` of their terms. -/
def tot (b : ℕ → ℕ) (sc : ℕ → EReal) (g n : ℕ) : ℝ :=
  ∑ i ∈ Finset.range n, if b i = g then term (sc i) (top b sc g n) else 0

/-! ## One row's term -/

/-- The exponential of the least extended real. -/
theorem exp_bot : Ideal.exp ⊥ = 0 := rfl
/-- The exponential of the greatest one. -/
theorem exp_top : Ideal.exp ⊤ = ⊤ := rfl
/-- The exponential of a real number. -/
theorem exp_coe (r : ℝ) : Ideal.exp ((r : ℝ) : EReal) = ((Real.exp r : ℝ) : EReal) := rfl

/-- An exponential is not negative. -/
theorem exp_nonneg (a : EReal) : 0 ≤ Ideal.exp a := by
  induction a with
  | bot => exact le_refl _
  | top => exact le_top
  | coe r => rw [exp_coe]; exact EReal.coe_nonneg.mpr (Real.exp_pos r).le

/-- A term is not negative. -/
theorem term_nonneg (a t : EReal) : 0 ≤ term a t := EReal.toReal_nonneg (exp_nonneg _)

/-- Of the least score the term is zero. -/
theorem term_bot (t : EReal) : term ⊥ t = 0 := by rw [term, EReal.bot_sub, exp_bot, EReal.toReal_zero]

/-- Where the greatest score is infinite, every term is zero. -/
theorem term_top (a : EReal) : term a ⊤ = 0 := by rw [term, EReal.sub_top, exp_bot, EReal.toReal_zero]

/-- Of two real numbers the term is the exponential of their difference. -/
theorem term_coe (x y : ℝ) : term (x : EReal) (y : EReal) = Real.exp (x - y) := by
  rw [term, ← EReal.coe_sub, exp_coe, EReal.toReal_coe]

/-- Of a score no greater than the greatest one, the exponential is the term. -/
theorem exp_eq {a t : EReal} (h : a ≤ t) : Ideal.exp (a - t) = ((term a t : ℝ) : EReal) := by
  induction t with
  | bot => rw [le_bot_iff.mp h, EReal.bot_sub, exp_bot, term_bot, EReal.coe_zero]
  | top => rw [EReal.sub_top, exp_bot, term_top, EReal.coe_zero]
  | coe y =>
    induction a with
    | bot => rw [EReal.bot_sub, exp_bot, term_bot, EReal.coe_zero]
    | top => exact absurd (top_le_iff.mp h) (EReal.coe_ne_top y)
    | coe x => rw [term_coe, ← EReal.coe_sub, exp_coe]

/-- A term taken to a greater maximum. -/
theorem term_mul {a t u : EReal} (h : a ≤ t) (h' : t ≤ u) : term a t * term t u = term a u := by
  induction u with
  | bot => rw [le_bot_iff.mp h', le_bot_iff.mp (h.trans h'), term_bot, mul_zero]
  | top => rw [term_top, term_top, mul_zero]
  | coe z =>
    induction t with
    | bot => rw [le_bot_iff.mp h, term_bot, term_bot, zero_mul]
    | top => exact absurd (top_le_iff.mp h') (EReal.coe_ne_top z)
    | coe y =>
      induction a with
      | bot => rw [term_bot, term_bot, zero_mul]
      | top => exact absurd (top_le_iff.mp h) (EReal.coe_ne_top y)
      | coe x => rw [term_coe, term_coe, term_coe, ← Real.exp_add]; congr 1; ring

/-! ## The maxima -/

variable (b : ℕ → ℕ) (sc : ℕ → EReal) (g n m : ℕ)

/-- Over no rows the maximum is the least extended real. -/
theorem top_zero : top b sc g 0 = ⊥ := by simp [top]

/-- Over no rows the sum is zero. -/
theorem tot_zero : tot b sc g 0 = 0 := by simp [tot]

/-- A fold of `max` from the least element is the supremum. -/
theorem fold_eq_sup {ι : Type} (s : Finset ι) (f : ι → EReal) : s.fold max ⊥ f = s.sup f := rfl

/-- A block's rows raise the maximum to the greater of the old one and the block's. -/
theorem top_add :
    top b sc g (n + m)
      = max (top b sc g n) (Finset.univ.fold max ⊥ fun k : Fin m => if b (n + k) = g then sc (n + k) else ⊥) := by
  rw [fold_eq_sup]
  apply le_antisymm
  · refine Finset.sup_le fun i hi => ?_
    rw [Finset.mem_range] at hi
    by_cases h : i < n
    · exact le_max_of_le_left
        (Finset.le_sup (f := fun i => if b i = g then sc i else ⊥) (Finset.mem_range.mpr h))
    · refine le_max_of_le_right ?_
      have hk : i - n < m := by omega
      have := Finset.le_sup (f := fun k : Fin m => if b (n + k) = g then sc (n + k) else ⊥)
        (Finset.mem_univ (⟨i - n, hk⟩ : Fin m))
      simp only [show n + (i - n) = i by omega] at this
      exact this
  · refine max_le ?_ ?_
    · exact Finset.sup_mono (Finset.range_mono (Nat.le_add_right n m))
    · refine Finset.sup_le fun k _ => ?_
      exact Finset.le_sup (f := fun i => if b i = g then sc i else ⊥)
        (Finset.mem_range.mpr (by have := k.isLt; omega : n + (k : ℕ) < n + m))

/-- The maximum over all rows, as one fold. -/
theorem top_eq_fold :
    top b sc g n = Finset.univ.fold max ⊥ fun k : Fin n => if b k = g then sc k else ⊥ := by
  have h := top_add b sc g 0 n
  simp only [Nat.zero_add] at h
  rw [h, top_zero]
  exact max_eq_right bot_le

variable {b g n}

/-- A row of the segment is no greater than the maximum. -/
theorem le_max {i : ℕ} (hi : i < n) (hb : b i = g) : sc i ≤ top b sc g n := by
  have h := Finset.le_sup (f := fun i => if b i = g then sc i else ⊥) (Finset.mem_range.mpr hi)
  rw [if_pos hb] at h
  exact h

/-- Where the maximum is infinite, some row of the segment has the infinite score. -/
theorem row_of_top (h : top b sc g n = ⊤) : ∃ i, i < n ∧ b i = g ∧ sc i = ⊤ := by
  have hne : (Finset.range n).Nonempty := by
    rw [Finset.nonempty_iff_ne_empty]
    intro e
    rw [top, e, Finset.sup_empty] at h
    exact bot_ne_top h
  obtain ⟨i, hi, e⟩ := Finset.exists_mem_eq_sup (Finset.range n) hne fun i => if b i = g then sc i else ⊥
  rw [← top, h] at e
  by_cases hb : b i = g
  · exact ⟨i, Finset.mem_range.mp hi, hb, by rw [if_pos hb] at e; exact e.symm⟩
  · rw [if_neg hb] at e
    exact absurd e.symm bot_ne_top

variable (b g n)

/-- The sum is not negative. -/
theorem tot_nonneg : 0 ≤ tot b sc g n :=
  Finset.sum_nonneg fun i _ => by split; exacts [term_nonneg _ _, le_refl _]

/-- An extended real sum of reals is the real sum. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The quotient of reals whose denominator is not zero. -/
theorem div_real (x y : ℝ) (hy : y ≠ 0) : Ideal.div ((x : ℝ) : EReal) ((y : ℝ) : EReal) = ((x / y : ℝ) : EReal) := by
  have h : ((y : ℝ) : EReal) ≠ 0 := by simpa using hy
  rw [Ideal.div, if_neg h, ← EReal.coe_inv, ← EReal.coe_mul, div_eq_mul_inv]

/-- What a block does to the running sum: the old sum is scaled to the new maximum, the block's terms are added. -/
theorem tot_add :
    ((tot b sc g n : ℝ) : EReal)
          * (if top b sc g (n + m) = ⊥ then 0 else Ideal.exp (top b sc g n - top b sc g (n + m)))
        + ∑ k : Fin m, (if b (n + k) = g then Ideal.exp (sc (n + k) - top b sc g (n + m)) else 0)
      = ((tot b sc g (n + m) : ℝ) : EReal) := by
  have hle : top b sc g n ≤ top b sc g (n + m) := Finset.sup_mono (Finset.range_mono (Nat.le_add_right n m))
  have hscale : (if top b sc g (n + m) = ⊥ then 0 else Ideal.exp (top b sc g n - top b sc g (n + m)))
      = ((term (top b sc g n) (top b sc g (n + m)) : ℝ) : EReal) := by
    by_cases hT : top b sc g (n + m) = ⊥
    · have hN : top b sc g n = ⊥ := le_bot_iff.mp (hle.trans_eq hT)
      rw [if_pos hT, hN, term_bot, EReal.coe_zero]
    · rw [if_neg hT, exp_eq hle]
  have hsum : (∑ k : Fin m, (if b (n + k) = g then Ideal.exp (sc (n + k) - top b sc g (n + m)) else 0))
      = ((∑ k : Fin m, (if b (n + k) = g then term (sc (n + k)) (top b sc g (n + m)) else 0) : ℝ) : EReal) := by
    rw [coe_sum]
    refine Finset.sum_congr rfl fun k _ => ?_
    by_cases hb : b (n + k) = g
    · rw [if_pos hb, if_pos hb, exp_eq (le_max sc (by have := k.isLt; omega) hb)]
    · rw [if_neg hb, if_neg hb, EReal.coe_zero]
  have hold : tot b sc g n * term (top b sc g n) (top b sc g (n + m))
      = ∑ i ∈ Finset.range n, if b i = g then term (sc i) (top b sc g (n + m)) else 0 := by
    rw [tot, Finset.sum_mul]
    refine Finset.sum_congr rfl fun i hi => ?_
    by_cases hb : b i = g
    · rw [if_pos hb, if_pos hb, term_mul (le_max sc (Finset.mem_range.mp hi) hb) hle]
    · rw [if_neg hb, if_neg hb, zero_mul]
  rw [hscale, hsum, ← EReal.coe_mul, hold, ← EReal.coe_add]
  congr 1
  rw [tot, Finset.sum_range_add]
  congr 1
  exact (Finset.sum_range fun k => if b (n + k) = g then term (sc (n + k)) (top b sc g (n + m)) else 0).symm

/-- Taking from a table the maximum over the entries that stand at one position gives the entry there. -/
theorem fold_at {p : ℕ} (f : Fin p → EReal) (a : Fin p) (q : Fin p → Prop) [DecidablePred q] (hq : ∀ k, q k ↔ k = a) :
    (Finset.univ.fold max ⊥ fun k : Fin p => if q k then f k else ⊥) = f a := by
  rw [fold_eq_sup]
  apply le_antisymm
  · refine Finset.sup_le fun k _ => ?_
    split
    · rename_i h; rw [(hq k).mp h]
    · exact bot_le
  · have := Finset.le_sup (f := fun k : Fin p => if q k then f k else ⊥) (Finset.mem_univ a)
    simp only [(hq a).mpr rfl, if_true] at this
    exact this

/-- A sum over the first `n` rows and a block of `m` more is the sum over the first `n + m`. -/
theorem sum_block (f : ℕ → ℝ) : (∑ i ∈ Finset.range n, f i) + ∑ k : Fin m, f (n + k) = ∑ i ∈ Finset.range (n + m), f i := by
  rw [Finset.sum_range_add, Finset.sum_range fun k => f (n + k)]

/-- Weighted sums of rows, then a product with a matrix row: the product may be taken of each row first. -/
theorem pool_swap {D : ℕ} (q : ℕ → Prop) [DecidablePred q] (wt : ℕ → ℝ) (x : ℕ → Fin D → ℝ) (w : Fin D → ℝ) :
    (∑ d : Fin D, (∑ i ∈ Finset.range n, if q i then wt i * x i d else 0) * w d)
      = ∑ i ∈ Finset.range n, if q i then wt i * ∑ d : Fin D, x i d * w d else 0 := by
  simp only [Finset.sum_mul]
  rw [Finset.sum_comm]
  refine Finset.sum_congr rfl fun i _ => ?_
  split
  · rw [Finset.mul_sum]
    exact Finset.sum_congr rfl fun d _ => mul_assoc _ _ _
  · simp

end Cert.Seg.Math

end
-- ==== Proof.StatsBlock.lean ====
/-
  What one block of the first TensorCore call computes over the extended reals: its scores, and how it takes the running
  maximum and the running sum of every segment from the rows before it to the rows up to its end.
-/
module

public import proofs.«01_k».proof.Proof.Stats
public import proofs.«01_k».proof.Proof.Math
public import proofs.«01_k».proof.Proof.Gen.KernelIdeal

@[expose] public section

noncomputable section

namespace Cert.Seg.StatsBlock

open Idealize Idealize.ShloMosaic Cert.KernelIdeal Cert.KernelIdeal.Gen

/-- The constant −∞ is the least extended real. -/
theorem negInf : Ideal.ofBits .f32 0xFF800000#32 = ⊥ := by simp [Ideal.ofBits, Ideal.ieee]

/-- Choosing by whether a segment's number is the word of a row's id. -/
theorem select_id {α : Type} (w : BitVec 32) (g : Fin 256) (u v : α) :
    Scalar.select (IntOp.cmpi .eq (BitVec.ofNat 32 ↑g) w) u v = if w.toNat = ↑g then u else v := by
  have hg : (g : ℕ) < 4294967296 := by have := g.isLt; omega
  by_cases h : w.toNat = ↑g
  · have : BitVec.ofNat 32 ↑g = w := by rw [← h]; simp
    rw [if_pos h, this]; simp [Scalar.select, IntOp.cmpi]
  · have : BitVec.ofNat 32 ↑g ≠ w := fun e => h (by rw [← e, BitVec.toNat_ofNat]; exact Nat.mod_eq_of_lt hg)
    rw [if_neg h]
    have hf : (BitVec.ofNat 32 ↑g == w) = false := beq_eq_false_iff_ne.mpr this
    simp [Scalar.select, IntOp.cmpi, hf]

variable (x : Vec Ideal S5000x512 .f32) (ids : Vec Ideal S1x1x5000 .i32) (wk : Vec Ideal S512x512 .f32)
  (q : Vec Ideal S1x512 .f32) (mO sO : Vec Ideal S256x1 .f32)

/-- A row's score: the query times the row's key. -/
theorem score_apply (r : Fin 5000) :
    k0_pay7 x wk q (ix2 0 r) = ∑ e : Fin 512, q (ix2 0 e) * ∑ d : Fin 512, x (ix2 r d) * wk (ix2 e d) := by
  pointwise [k0_pay7]

/-- The scores' block holds the scores. -/
theorem scores_apply (r : Fin 5000) : k0_pay8 x wk q (ix3 0 0 r) = k0_pay7 x wk q (ix2 0 r) := by
  pointwise [k0_pay8]

/-- Choosing by the mask of a block: by whether the row is of the segment. -/
theorem select_mask (g : Fin 256) (r : Fin 5000) (u v : EReal) :
    Scalar.select (k0_pay9 (F := Ideal) ids (ix2 g r)) u v = if (ids (ix3 0 0 r)).toNat = ↑g then u else v := by
  rw [← select_id]
  congr 1
  pointwise [k0_pay9]

/-- A segment's new maximum: the greater of the old one and the greatest of the block's rows of the segment. -/
theorem max_apply (g : Fin 256) :
    k0_pay10 x ids wk q mO (ix2 g 0)
      = max (mO (ix2 g 0)) (Finset.univ.fold max ⊥ fun r : Fin 5000 =>
          if (ids (ix3 0 0 r)).toNat = ↑g then k0_pay7 x wk q (ix2 0 r) else ⊥) := by
  pointwise [k0_pay10]
  simp only [select_mask, negInf]

/-- A segment's new sum: the old one scaled to the new maximum, and the block's rows' terms. -/
theorem sum_apply (g : Fin 256) :
    Stats.sStep x ids wk q mO sO (ix2 g 0)
      = sO (ix2 g 0) * (if k0_pay10 x ids wk q mO (ix2 g 0) = ⊥ then 0
            else Ideal.exp (mO (ix2 g 0) - k0_pay10 x ids wk q mO (ix2 g 0)))
          + ∑ r : Fin 5000, if (ids (ix3 0 0 r)).toNat = ↑g then
              Ideal.exp (k0_pay7 x wk q (ix2 0 r)
                - Finset.univ.fold max ⊥ fun g' : Fin 256 =>
                    if (ids (ix3 0 0 r)).toNat = ↑g' then k0_pay10 x ids wk q mO (ix2 g' 0) else ⊥)
            else 0 := by
  pointwise [Stats.sStep, k0_pay1, k0_pay11, k0_pay12]
  simp only [select_mask, negInf]

/-- The maximum stored is the maximum computed. -/
theorem mStep_apply (g : Fin 256) : Stats.mStep x ids wk q mO (ix2 g 0) = k0_pay10 x ids wk q mO (ix2 g 0) := by
  pointwise [Stats.mStep, k0_pay2]

/-- What a result's maximum is: the running one, zero where no row was met. -/
theorem maxOut_apply (m : Vec Ideal S256x1 .f32) (g : Fin 256) :
    k0_pay3 m (ix2 g 0) = if m (ix2 g 0) = ⊥ then 0 else m (ix2 g 0) := by
  pointwise [k0_pay3]
  simp only [negInf]

/-- The running maxima begin at the least extended real. -/
theorem max_init (g : Fin 256) : k0_pay4 (F := Ideal) (ix2 g 0) = ⊥ := by
  pointwise [k0_pay4]
  exact negInf

/-- The running sums begin at zero. -/
theorem sum_init (g : Fin 256) : k0_pay5 (F := Ideal) (ix2 g 0) = 0 := by
  pointwise [k0_pay5]

/-- The rounded copy of the rows is the rows: over the extended reals nothing is rounded. -/
theorem copy_apply : k0_pay6 (F := Ideal) x = x := by
  funext j
  pointwise [k0_pay6]

variable {x ids wk q mO sO} {b : ℕ → ℕ} {sc : ℕ → EReal} {n : ℕ}
  (hs : ∀ r : Fin 5000, k0_pay7 x wk q (ix2 0 r) = sc (n + r))
  (hi : ∀ r : Fin 5000, (ids (ix3 0 0 r)).toNat = b (n + r))
  (hm : ∀ g : Fin 256, mO (ix2 g 0) = Math.top b sc g n)

include hs hi hm

/-- The maxima over the first `n` rows become those over the first `n + 5000`. -/
theorem max_step (g : Fin 256) : k0_pay10 x ids wk q mO (ix2 g 0) = Math.top b sc g (n + 5000) := by
  rw [max_apply, Math.top_add, hm]
  simp only [hi, hs]

/-- The sums over the first `n` rows become those over the first `n + 5000`. -/
theorem sum_step (hS : ∀ g : Fin 256, sO (ix2 g 0) = ((Math.tot b sc g n : ℝ) : EReal)) (g : Fin 256) :
    Stats.sStep x ids wk q mO sO (ix2 g 0) = ((Math.tot b sc g (n + 5000) : ℝ) : EReal) := by
  have hrow : ∀ r : Fin 5000, (if (ids (ix3 0 0 r)).toNat = ↑g then
        Ideal.exp (k0_pay7 x wk q (ix2 0 r) - Finset.univ.fold max ⊥ fun g' : Fin 256 =>
          if (ids (ix3 0 0 r)).toNat = ↑g' then k0_pay10 x ids wk q mO (ix2 g' 0) else ⊥) else 0)
      = if b (n + r) = ↑g then Ideal.exp (sc (n + r) - Math.top b sc g (n + 5000)) else 0 := by
    intro r
    rw [hi, hs]
    by_cases h : b (n + r) = ↑g
    · rw [if_pos h, if_pos h]
      refine congrArg (fun y => Ideal.exp (sc (n + r) - y)) ?_
      refine Eq.trans (Math.fold_at (fun g' : Fin 256 => k0_pay10 x ids wk q mO (ix2 g' 0)) g
        (fun k : Fin 256 => b (n + r) = ↑k) fun k => ?_) (max_step hs hi hm g)
      rw [h]; exact ⟨fun e => Fin.ext e.symm, fun e => by rw [e]⟩
    · rw [if_neg h, if_neg h]
  rw [sum_apply, ← Math.tot_add, hS, hm, max_step hs hi hm, Finset.sum_congr rfl fun r _ => hrow r]

end Cert.Seg.StatsBlock

end
-- ==== Proof.StatsValue.lean ====
/-
  What the first TensorCore call leaves in its four results over the extended reals: the scores, the greatest score of
  every segment (zero for a segment without rows), the sums of the segments, and the copy of the rows.
-/
module

public import proofs.«01_k».proof.Proof.StatsBlock
public import Idealize.ShloMosaic.Lib.Pipeline.ValueKit

@[expose] public section

noncomputable section

namespace Cert.Seg.StatsValue

open Idealize Idealize.ShloMosaic Cert.KernelIdeal Cert.KernelIdeal.Gen
open Idealize.ShloMosaic.TcCoe

/-- Row `r` of block `t`, among all the rows. -/
def row (t : Fin cfg0.N) (r : Fin 5000) : Fin 50000 :=
  ⟨t.val * 5000 + r.val, by have h : t.val < 10 := Nat.lt_of_lt_of_eq t.isLt N_0; have := r.isLt; omega⟩

/-- The ids' block at a point. -/
theorem at_ids : ∀ t : Fin cfg0.N, win0_0.index t = ![t.val, 0, 0] := (by decide +kernel : ∀ t : Fin grid0.N, _)
/-- The rows' block at a point. -/
theorem at_rows : ∀ t : Fin cfg0.N, win0_1.index t = ![t.val, 0] := (by decide +kernel : ∀ t : Fin grid0.N, _)
/-- The query is whole at every point. -/
theorem at_query : ∀ t : Fin cfg0.N, win0_2.index t = ![0, 0] := (by decide +kernel : ∀ t : Fin grid0.N, _)
/-- The keys' matrix is whole at every point. -/
theorem at_keys : ∀ t : Fin cfg0.N, win0_3.index t = ![0, 0] := (by decide +kernel : ∀ t : Fin grid0.N, _)
/-- The scores' block at a point. -/
theorem at_scores : ∀ t : Fin cfg0.N, win0_4.index t = ![t.val, 0, 0] := (by decide +kernel : ∀ t : Fin grid0.N, _)
/-- The maxima are whole at every point. -/
theorem at_max : ∀ t : Fin cfg0.N, win0_5.index t = ![0, 0] := (by decide +kernel : ∀ t : Fin grid0.N, _)
/-- The sums are whole at every point. -/
theorem at_sum : ∀ t : Fin cfg0.N, win0_6.index t = ![0, 0] := (by decide +kernel : ∀ t : Fin grid0.N, _)
/-- The copy's block at a point. -/
theorem at_copy : ∀ t : Fin cfg0.N, win0_7.index t = ![t.val, 0] := (by decide +kernel : ∀ t : Fin grid0.N, _)

variable (V : (c : Dev nD) → (b : Ref sig .tc) → Buf (Elt Ideal) ((c : Thread nD τ).loc b)) (c : Dev nD)

/-- The rows. -/
abbrev rowsA : S50000x512.Idx → EReal := V c main_arg0
/-- The query. -/
abbrev queryA : S1x512.Idx → EReal := V c main_v1
/-- The keys' matrix. -/
abbrev keysA : S512x512.Idx → EReal := V c main_arg3
/-- The ids, in blocks. -/
abbrev idsA : S10x1x5000.Idx → BitVec 32 := V c main_v0

/-- The rows' block is rows of the array. -/
theorem rows_apply (t : Fin cfg0.N) (r : Fin 5000) (d : Fin 512) :
    (Stats.blk V c 1 t : Vec Ideal S5000x512 .f32) (ix2 r d) = rowsA V c (ix2 (row t r) d) := by
  blk_simp [Stats.blk]
  refine congrArg (V c main_arg0) ?_
  blk_ext [at_rows, row]

/-- The ids' block is a row of the array of ids. -/
theorem ids_apply (t : Fin cfg0.N) (r : Fin 5000) :
    (Stats.blk V c 0 t : Vec Ideal S1x1x5000 .i32) (ix3 0 0 r)
      = idsA V c (ix3 ⟨t.val, Nat.lt_of_lt_of_eq t.isLt N_0⟩ 0 r) := by
  blk_simp [Stats.blk]
  refine congrArg (V c main_v0) ?_
  blk_ext [at_ids]

/-- The query's block is the query. -/
theorem query_apply (t : Fin cfg0.N) (e : Fin 512) :
    (Stats.blk V c 2 t : Vec Ideal S1x512 .f32) (ix2 0 e) = queryA V c (ix2 0 e) := by
  blk_simp [Stats.blk]
  refine congrArg (V c main_v1) ?_
  blk_ext [at_query]

/-- The keys' block is the matrix. -/
theorem keys_apply (t : Fin cfg0.N) (e d : Fin 512) :
    (Stats.blk V c 3 t : Vec Ideal S512x512 .f32) (ix2 e d) = keysA V c (ix2 e d) := by
  blk_simp [Stats.blk]
  refine congrArg (V c main_arg3) ?_
  blk_ext [at_keys]

variable {b : ℕ → ℕ} {sc : ℕ → EReal}
  (hsc : ∀ i : Fin 50000, (∑ e : Fin 512, queryA V c (ix2 0 e)
      * ∑ d : Fin 512, rowsA V c (ix2 i d) * keysA V c (ix2 e d))
    = sc i)
  (hid : ∀ (t : Fin 10) (r : Fin 5000), (idsA V c (ix3 t 0 r)).toNat = b (t * 5000 + r))

include hsc in
/-- A block's scores are its rows'. -/
theorem score_blk (t : Fin cfg0.N) (r : Fin 5000) :
    k0_pay7 (Stats.blk V c 1 t) (Stats.blk V c 3 t) (Stats.blk V c 2 t) (ix2 0 r) = sc (t.val * 5000 + r) := by
  rw [StatsBlock.score_apply, ← show ((row t r : Fin 50000) : ℕ) = t.val * 5000 + r from rfl, ← hsc]
  refine Finset.sum_congr rfl fun e _ => ?_
  rw [query_apply]
  refine congrArg _ (Finset.sum_congr rfl fun d _ => ?_)
  rw [rows_apply, keys_apply]

include hid in
/-- A block's ids are its rows'. -/
theorem id_blk (t : Fin cfg0.N) (r : Fin 5000) :
    ((Stats.blk V c 0 t : Vec Ideal S1x1x5000 .i32) (ix3 0 0 r)).toNat = b (t.val * 5000 + r) := by
  rw [ids_apply, hid]

include hsc hid in
/-- Before point `n` the running maxima and sums are those of the rows before block `n`. -/
theorem run_value (n : ℕ) (hn : n ≤ 10) (g : Fin 256) :
    (Stats.run V c n).1 (ix2 g 0) = Math.top b sc g (n * 5000)
      ∧ (Stats.run V c n).2 (ix2 g 0) = ((Math.tot b sc g (n * 5000) : ℝ) : EReal) := by
  induction n generalizing g with
  | zero =>
    rw [Nat.zero_mul, Math.top_zero, Math.tot_zero]
    exact ⟨StatsBlock.max_init g, StatsBlock.sum_init g⟩
  | succ n ih =>
    have hlt : n < cfg0.N := Nat.lt_of_lt_of_eq (by omega : n < 10) N_0.symm
    have hm := fun g => (ih (by omega) g).1
    have hS := fun g => (ih (by omega) g).2
    have hs := score_blk V c hsc ⟨n, hlt⟩
    have hi := id_blk V c hid ⟨n, hlt⟩
    rw [show n + 1 = (⟨n, hlt⟩ : Fin cfg0.N).val + 1 from rfl, Stats.run_succ, Nat.succ_mul]
    refine ⟨?_, ?_⟩
    · exact (StatsBlock.mStep_apply _ _ _ _ _ g).trans (StatsBlock.max_step hs hi hm g)
    · exact StatsBlock.sum_step hs hi hm hS g

include hsc in
/-- The block of scores that a point writes, at an index. -/
theorem scores_at (t : Fin cfg0.N) (y : S1x1x5000.Idx) :
    k0_pay8 (Stats.blk V c 1 t) (Stats.blk V c 3 t) (Stats.blk V c 2 t) y = sc (t.val * 5000 + (y 2).val) := by
  have e0 : y 0 = (0 : Fin 1) := Subsingleton.elim (α := Fin 1) _ _
  have e1 : y 1 = (0 : Fin 1) := Subsingleton.elim (α := Fin 1) _ _
  rw [eq_ix3 y, e0, e1]
  exact (StatsBlock.scores_apply _ _ _ _).trans (score_blk V c hsc t (y 2))

include hsc hid in
/-- The maxima that the last point writes, at an index. -/
theorem max_at (y : S256x1.Idx) :
    k0_pay3 (Stats.run V c 10).1 y = if Math.top b sc (y 0).val 50000 = ⊥ then 0 else Math.top b sc (y 0).val 50000 := by
  have e1 : y 1 = (0 : Fin 1) := Subsingleton.elim (α := Fin 1) _ _
  rw [eq_ix2 y, e1]
  refine (StatsBlock.maxOut_apply _ _).trans ?_
  rw [(run_value V c hsc hid 10 (by decide) (y 0)).1]
  rfl

include hsc hid in
/-- The sums that the last point writes, at an index. -/
theorem sum_at (y : S256x1.Idx) : (Stats.run V c 10).2 y = ((Math.tot b sc (y 0).val 50000 : ℝ) : EReal) := by
  have e1 : y 1 = (0 : Fin 1) := Subsingleton.elim (α := Fin 1) _ _
  rw [eq_ix2 y, e1]
  exact (run_value V c hsc hid 10 (by decide) (y 0)).2

include hsc in
/-- The scores' array. -/
theorem scores_out : ((Stats.dat V 0 0 c).arrAt 4 cfg0.N : Vec Ideal S10x1x5000 .f32)
    = fun j => sc ((j 0).val * 5000 + (j 2).val) := by
  refine (Stats.dat V 0 0 c).arrAt_eq_of_covers 4 _ (by decide +kernel) fun t hf y => ?_
  blk_simp
  refine (scores_at V c hsc t y).trans ?_
  simp only [at_scores]
  show _ = sc (t.val * 5000 + (0 * 5000 + _))
  rw [Nat.zero_mul, Nat.zero_add]

/-- The maxima and the sums are written at the last point alone. -/
theorem last_of (t : Fin cfg0.N) (h : t.val % 10 = 9) : t.val + 1 = 10 := by
  have h' : t.val < 10 := Nat.lt_of_lt_of_eq t.isLt N_0
  omega

include hsc hid in
/-- The maxima's array. -/
theorem max_out : ((Stats.dat V 0 0 c).arrAt 5 cfg0.N : Vec Ideal S256x1 .f32)
    = fun j => if Math.top b sc (j 0).val 50000 = ⊥ then 0 else Math.top b sc (j 0).val 50000 := by
  refine (Stats.dat V 0 0 c).arrAt_eq_of_covers 5 _ (by decide +kernel) fun t hf y => ?_
  blk_simp
  show k0_pay3 (Stats.run V c (t.val + 1)).1 y = _
  rw [last_of t ((flush0_5 t).mp hf)]
  refine (max_at V c hsc hid y).trans ?_
  simp only [at_max]
  show _ = if Math.top b sc (0 * 256 + _) 50000 = ⊥ then 0 else Math.top b sc (0 * 256 + _) 50000
  rw [Nat.zero_mul, Nat.zero_add]

include hsc hid in
/-- The sums' array. -/
theorem sum_out : ((Stats.dat V 0 0 c).arrAt 6 cfg0.N : Vec Ideal S256x1 .f32)
    = fun j => ((Math.tot b sc (j 0).val 50000 : ℝ) : EReal) := by
  refine (Stats.dat V 0 0 c).arrAt_eq_of_covers 6 _ (by decide +kernel) fun t hf y => ?_
  blk_simp
  show (Stats.run V c (t.val + 1)).2 y = _
  rw [last_of t ((flush0_6 t).mp hf)]
  refine (sum_at V c hsc hid y).trans ?_
  simp only [at_sum]
  show _ = ((Math.tot b sc (0 * 256 + _) 50000 : ℝ) : EReal)
  rw [Nat.zero_mul, Nat.zero_add]

/-- The copy is the rows. -/
theorem copy_out : ((Stats.dat V 0 0 c).arrAt 7 cfg0.N : Vec Ideal S50000x512 .bf16) = rowsA V c := by
  refine (Stats.dat V 0 0 c).arrAt_eq_of_covers 7 _ (by decide +kernel) fun t hf y => ?_
  blk_simp
  show k0_pay6 (Stats.blk V c 1 t) y = _
  rw [StatsBlock.copy_apply]
  blk_simp [Stats.blk]
  refine congrArg (V c main_arg0) ?_
  blk_ext [at_rows, at_copy]

end Cert.Seg.StatsValue

end
-- ==== Proof.PoolValue.lean ====
/-
  What the second TensorCore call leaves over the extended reals: for every segment and every output column, the sum over
  the segment's rows of the row's weight times the row's value.
-/
module

public import proofs.«01_k».proof.Proof.StatsBlock
public import proofs.«01_k».proof.Proof.Pool
public import Idealize.ShloMosaic.Lib.Pipeline.ValueKit

@[expose] public section

noncomputable section

namespace Cert.Seg.PoolValue

open Idealize Idealize.ShloMosaic Cert.KernelIdeal Cert.KernelIdeal.Gen
open Idealize.ShloMosaic.TcCoe

/-- The accumulator begins at zero. -/
theorem init_apply (g : Fin 256) (d : Fin 512) : k2_pay1 (F := Ideal) (ix2 g d) = 0 := by
  pointwise [k2_pay1]

/-- A block adds its rows of the segment, each times its weight. -/
theorem step_apply (x : Vec Ideal S5000x512 .bf16) (ids : Vec Ideal S1x1x5000 .i32) (w : Vec Ideal S1x1x5000 .f32)
    (a : Vec Ideal S256x512 .f32) (g : Fin 256) (d : Fin 512) :
    k2_pay2 x ids w a (ix2 g d)
      = a (ix2 g d) + ∑ r : Fin 5000, if (ids (ix3 0 0 r)).toNat = ↑g then w (ix3 0 0 r) * x (ix2 r d) else 0 := by
  pointwise [k2_pay2]
  simp only [StatsBlock.select_id]

/-- The result is the accumulator times the values' matrix. -/
theorem out_apply (a : Vec Ideal S256x512 .f32) (w : Vec Ideal S512x512 .f32) (g : Fin 256) (j : Fin 512) :
    k2_pay3 a w (ix2 g j) = ∑ d : Fin 512, a (ix2 g d) * w (ix2 j d) := by
  pointwise [k2_pay3]

/-- Row `r` of block `t`, among all the rows. -/
def row (t : Fin cfg2.N) (r : Fin 5000) : Fin 50000 :=
  ⟨t.val * 5000 + r.val, by have h : t.val < 10 := Nat.lt_of_lt_of_eq t.isLt N_2; have := r.isLt; omega⟩

/-- The weights' block at a point. -/
theorem at_soft : ∀ t : Fin cfg2.N, win2_0.index t = ![t.val, 0, 0] := (by decide +kernel : ∀ t : Fin grid2.N, _)
/-- The ids' block at a point. -/
theorem at_ids : ∀ t : Fin cfg2.N, win2_1.index t = ![t.val, 0, 0] := (by decide +kernel : ∀ t : Fin grid2.N, _)
/-- The rows' block at a point. -/
theorem at_rows : ∀ t : Fin cfg2.N, win2_2.index t = ![t.val, 0] := (by decide +kernel : ∀ t : Fin grid2.N, _)
/-- The values' matrix is whole at every point. -/
theorem at_vals : ∀ t : Fin cfg2.N, win2_3.index t = ![0, 0] := (by decide +kernel : ∀ t : Fin grid2.N, _)
/-- The result is whole at every point. -/
theorem at_out : ∀ t : Fin cfg2.N, win2_4.index t = ![0, 0] := (by decide +kernel : ∀ t : Fin grid2.N, _)

variable (V : (c : Dev nD) → (b : Ref sig .tc) → Buf (Elt Ideal) ((c : Thread nD τ).loc b)) (c : Dev nD)

/-- The weights, in blocks. -/
abbrev softA : S10x1x5000.Idx → EReal := V c main_v12
/-- The ids, in blocks. -/
abbrev idsA : S10x1x5000.Idx → BitVec 32 := V c main_v0
/-- The copy of the rows. -/
abbrev rowsA : S50000x512.Idx → EReal := V c main_v2_3
/-- The values' matrix. -/
abbrev valsA : S512x512.Idx → EReal := V c main_arg4

/-- Block `t` of the weights. -/
abbrev softB (t : Fin cfg2.N) : S1x1x5000.Idx → EReal := Pool.blk V c 0 t
/-- Block `t` of the ids. -/
abbrev idsB (t : Fin cfg2.N) : S1x1x5000.Idx → BitVec 32 := Pool.blk V c 1 t
/-- Block `t` of the rows. -/
abbrev rowsB (t : Fin cfg2.N) : S5000x512.Idx → EReal := Pool.blk V c 2 t

/-- The weights' block is a row of the array of weights. -/
theorem soft_apply (t : Fin cfg2.N) (r : Fin 5000) :
    softB V c t (ix3 0 0 r) = softA V c (ix3 ⟨t.val, Nat.lt_of_lt_of_eq t.isLt N_2⟩ 0 r) := by
  blk_simp [softB, idsB, rowsB, Pool.blk]
  refine congrArg (V c main_v12) ?_
  blk_ext [at_soft]

/-- The ids' block is a row of the array of ids. -/
theorem ids_apply (t : Fin cfg2.N) (r : Fin 5000) :
    idsB V c t (ix3 0 0 r) = idsA V c (ix3 ⟨t.val, Nat.lt_of_lt_of_eq t.isLt N_2⟩ 0 r) := by
  blk_simp [softB, idsB, rowsB, Pool.blk]
  refine congrArg (V c main_v0) ?_
  blk_ext [at_ids]

/-- The rows' block is rows of the array. -/
theorem rows_apply (t : Fin cfg2.N) (r : Fin 5000) (d : Fin 512) :
    rowsB V c t (ix2 r d) = rowsA V c (ix2 (row t r) d) := by
  blk_simp [softB, idsB, rowsB, Pool.blk]
  refine congrArg (V c main_v2_3) ?_
  blk_ext [at_rows, row]

/-- The values' block is the matrix. -/
theorem vals_apply (t : Fin cfg2.N) (j d : Fin 512) :
    (Pool.blk V c 3 t : Vec Ideal S512x512 .f32) (ix2 j d) = valsA V c (ix2 j d) := by
  blk_simp [softB, idsB, rowsB, Pool.blk]
  refine congrArg (V c main_arg4) ?_
  blk_ext [at_vals]

/-- The pooled values: over the rows of a segment, weight times value. -/
def pooled (b : ℕ → ℕ) (wt : ℕ → ℝ) (X : ℕ → Fin 512 → ℝ) (W : Fin 512 → Fin 512 → ℝ) (j : S256x512.Idx) : EReal :=
  ((∑ i ∈ Finset.range 50000, if b i = (j 0).val then wt i * ∑ d : Fin 512, X i d * W (j 1) d else 0 : ℝ) : EReal)

variable {b : ℕ → ℕ} {wt : ℕ → ℝ} {X : ℕ → Fin 512 → ℝ} {W : Fin 512 → Fin 512 → ℝ}
  (hw : ∀ (t : Fin 10) (r : Fin 5000), softA V c (ix3 t 0 r) = ((wt (t * 5000 + r) : ℝ) : EReal))
  (hid : ∀ (t : Fin 10) (r : Fin 5000), (idsA V c (ix3 t 0 r)).toNat = b (t * 5000 + r))
  (hx : ∀ (i : Fin 50000) (d : Fin 512), rowsA V c (ix2 i d) = ((X i d : ℝ) : EReal))
  (hv : ∀ j d : Fin 512, valsA V c (ix2 j d) = ((W j d : ℝ) : EReal))

include hw hid hx

/-- Before point `n` the accumulator holds the weighted sums over the rows before block `n`. -/
theorem acc_value (n : ℕ) (hn : n ≤ 10) (g : Fin 256) (d : Fin 512) :
    Pool.acc V c n (ix2 g d) = ((∑ i ∈ Finset.range (n * 5000), if b i = ↑g then wt i * X i d else 0 : ℝ) : EReal) := by
  induction n with
  | zero => rw [Nat.zero_mul, Finset.range_zero, Finset.sum_empty]; exact init_apply g d
  | succ n ih =>
    have hlt : n < cfg2.N := Nat.lt_of_lt_of_eq (by omega : n < 10) N_2.symm
    have hrow : ∀ r : Fin 5000,
        (if (idsB V c ⟨n, hlt⟩ (ix3 0 0 r)).toNat = ↑g then softB V c ⟨n, hlt⟩ (ix3 0 0 r) * rowsB V c ⟨n, hlt⟩ (ix2 r d) else 0)
          = ((if b (n * 5000 + r) = ↑g then wt (n * 5000 + r) * X (n * 5000 + r) d else 0 : ℝ) : EReal) := by
      intro r
      rw [ids_apply, soft_apply, rows_apply, hid, hw, hx]
      by_cases h : b (n * 5000 + r) = ↑g
      · rw [if_pos h, if_pos h, EReal.coe_mul]; rfl
      · rw [if_neg h, if_neg h, EReal.coe_zero]
    refine (congrFun (Pool.acc_succ V c ⟨n, hlt⟩) (ix2 g d)).trans ?_
    refine (step_apply _ _ _ _ g d).trans ?_
    rw [ih (by omega), Finset.sum_congr rfl fun r _ => hrow r, ← Math.coe_sum, ← EReal.coe_add, Nat.succ_mul,
      Math.sum_block (n * 5000) 5000 fun i => if b i = ↑g then wt i * X i d else 0]

include hv

/-- What the last point writes, at a segment and a column. -/
theorem out_at (t : Fin cfg2.N) (g : Fin 256) (j : Fin 512) :
    k2_pay3 (Pool.acc V c 10) (Pool.blk V c 3 t) (ix2 g j) = pooled b wt X W (ix2 g j) := by
  show _ = ((∑ i ∈ Finset.range 50000, if b i = ↑g then wt i * ∑ d : Fin 512, X i d * W j d else 0 : ℝ) : EReal)
  rw [← Math.pool_swap 50000 (fun i => b i = ↑g) wt X (W j), Math.coe_sum]
  refine (out_apply _ _ g j).trans (Finset.sum_congr rfl fun d _ => ?_)
  rw [acc_value V c hw hid hx 10 (by decide), EReal.coe_mul]
  exact congrArg _ ((vals_apply V c t j d).trans (hv _ _))

/-- The result. -/
theorem pool_out : ((Pool.dat V 0 0 c).arrAt 4 cfg2.N : Vec Ideal S256x512 .f32) = pooled b wt X W := by
  refine (Pool.dat V 0 0 c).arrAt_eq_of_covers 4 _ (by decide +kernel) fun t hf y => ?_
  have e : ((cfg2.win 4).blk t).view.emb y = y := by
    blk_ext [at_out]
  rw [e]
  blk_simp
  have ht : t.val + 1 = 10 := by
    have h := (flush2_4 t).mp hf
    have h' : t.val < 10 := Nat.lt_of_lt_of_eq t.isLt N_2
    omega
  show k2_pay3 (Pool.acc V c (t.val + 1)) (Pool.blk V c 3 t) y = _
  rw [ht, eq_ix2 y]
  exact out_at V c hw hid hx hv t (y 0) (y 1)

end Cert.Seg.PoolValue

end
-- ==== Proof.Weights.lean ====
/-
  The two functions both programs come to: a row's score, and its weight among the rows of its segment. A score may be
  infinite; a weight is a real number. The kernel and the reference treat an infinite maximum differently, and come to one
  weight.
-/
module

public import proofs.«01_k».proof.Proof.Math

@[expose] public section

noncomputable section

namespace Cert.Seg

open Idealize Idealize.ShloMosaic

/-- The small number added to a segment's sum before the division. -/
def eps : ℝ := (Ideal.ofBits .f32 0x24E69595#32).toReal

/-- The constant's bits denote a positive real number. -/
theorem eps_word : ∃ r : ℝ, 0 < r ∧ Ideal.ofBits .f32 0x24E69595#32 = (r : EReal) := by
  refine ⟨_, ?_, by simp [Ideal.ofBits, Ideal.ieee]; rfl⟩
  positivity

/-- The constant is `eps`. -/
theorem eps_eq : Ideal.ofBits .f32 0x24E69595#32 = ((eps : ℝ) : EReal) := by
  obtain ⟨r, _, h⟩ := eps_word
  rw [eps, h, EReal.toReal_coe]

/-- It is positive. -/
theorem eps_pos : 0 < eps := by
  obtain ⟨r, hr, h⟩ := eps_word
  rw [eps, h, EReal.toReal_coe]
  exact hr

/-- A row's score: the query times the row's key. -/
def score (x : Fin 50000 → Fin 512 → EReal) (q : Fin 512 → EReal) (k : Fin 512 → Fin 512 → EReal) (i : ℕ) : EReal :=
  if h : i < 50000 then ∑ e : Fin 512, q e * ∑ d : Fin 512, x ⟨i, h⟩ d * k e d else ⊥

/-- A row's weight: its term among the rows of its segment, divided by the segment's sum of those. -/
def weight (b : ℕ → ℕ) (sc : ℕ → EReal) (i : ℕ) : ℝ :=
  Math.term (sc i) (Math.top b sc (b i) 50000) / (Math.tot b sc (b i) 50000 + eps)

variable (b : ℕ → ℕ) (sc : ℕ → EReal)

/-- The divisor is not zero. -/
theorem divisor_ne (g : ℕ) : Math.tot b sc g 50000 + eps ≠ 0 :=
  (add_pos_of_nonneg_of_pos (Math.tot_nonneg b sc g 50000) eps_pos).ne'

/-- Less the maximum, or less zero where the maximum is the least extended real: the exponential of a score is its term. -/
theorem exp_of_max {g i : ℕ} (hi : i < 50000) (hb : b i = g) :
    Ideal.exp (sc i - (if Math.top b sc g 50000 = ⊥ then 0 else Math.top b sc g 50000))
      = ((Math.term (sc i) (Math.top b sc g 50000) : ℝ) : EReal) := by
  have hle := Math.le_max sc hi hb
  by_cases h : Math.top b sc g 50000 = ⊥
  · have hs : sc i = ⊥ := le_bot_iff.mp (hle.trans_eq h)
    rw [if_pos h, hs, Math.term_bot, EReal.bot_sub, Math.exp_bot, EReal.coe_zero]
  · rw [if_neg h, Math.exp_eq hle]

/-- The kernel's quotient for a row is its weight. -/
theorem weight_eq (i : ℕ) (hi : i < 50000) :
    Ideal.div (Ideal.exp (sc i - (if Math.top b sc (b i) 50000 = ⊥ then 0 else Math.top b sc (b i) 50000)))
        (((Math.tot b sc (b i) 50000 : ℝ) : EReal) + Ideal.ofBits .f32 0x24E69595#32)
      = ((weight b sc i : ℝ) : EReal) := by
  rw [exp_of_max b sc hi rfl, eps_eq, ← EReal.coe_add, Math.div_real _ _ (divisor_ne b sc (b i))]
  rfl

/-! ## The reference's way: less the maximum where that is finite, else less zero -/

/-- The maximum of a segment, zero where it is infinite. -/
def finiteTop (g : ℕ) : EReal :=
  if Math.top b sc g 50000 = ⊤ then 0 else if Math.top b sc g 50000 = ⊥ then 0 else Math.top b sc g 50000

/-- The segment's sum of the exponentials of the scores less that. -/
def plainSum (g : ℕ) : EReal :=
  ∑ i : Fin 50000, if b i = g then Ideal.exp (sc i - finiteTop b sc g) else 0

/-- Where the maximum is not infinite, the sum is the sum of the terms. -/
theorem plainSum_eq {g : ℕ} (h : Math.top b sc g 50000 ≠ ⊤) : plainSum b sc g = ((Math.tot b sc g 50000 : ℝ) : EReal) := by
  rw [plainSum, finiteTop, if_neg h, Math.tot, Finset.sum_range, Math.coe_sum]
  refine Finset.sum_congr rfl fun i _ => ?_
  by_cases hb : b i = g
  · rw [if_pos hb, if_pos hb, exp_of_max b sc i.isLt hb]
  · rw [if_neg hb, if_neg hb, EReal.coe_zero]

/-- Where the maximum is infinite, so is the sum. -/
theorem plainSum_top {g : ℕ} (h : Math.top b sc g 50000 = ⊤) : plainSum b sc g = ⊤ := by
  obtain ⟨i, hi, hb, hs⟩ := Math.row_of_top sc h
  have hle := Finset.single_le_sum (f := fun i : Fin 50000 => if b i = g then Ideal.exp (sc i - finiteTop b sc g) else 0)
    (fun k _ => by
      show 0 ≤ if b k = g then Ideal.exp (sc k - finiteTop b sc g) else 0
      by_cases hk : b k = g
      · rw [if_pos hk]; exact Math.exp_nonneg _
      · rw [if_neg hk])
    (Finset.mem_univ (⟨i, hi⟩ : Fin 50000))
  refine top_le_iff.mp (le_trans ?_ hle)
  show ⊤ ≤ if b i = g then Ideal.exp (sc i - finiteTop b sc g) else 0
  rw [if_pos hb, hs, finiteTop, if_pos h, sub_zero, Math.exp_top]

/-- What is divided by the greatest extended real is zero. -/
theorem div_top (a : EReal) : Ideal.div a ⊤ = 0 := by
  rw [Ideal.div, if_neg EReal.top_ne_zero, EReal.inv_top, mul_zero]

/-- The reference's quotient for a row is its weight. -/
theorem plain_weight (i : ℕ) (hi : i < 50000) :
    Ideal.div (Ideal.exp (sc i - finiteTop b sc (b i))) (plainSum b sc (b i) + Ideal.ofBits .f32 0x24E69595#32)
      = ((weight b sc i : ℝ) : EReal) := by
  by_cases h : Math.top b sc (b i) 50000 = ⊤
  · rw [plainSum_top b sc h, eps_eq, EReal.top_add_coe, div_top, weight, h, Math.term_top, zero_div, EReal.coe_zero]
  · rw [plainSum_eq b sc h, finiteTop, if_neg h]
    exact weight_eq b sc i hi

end Cert.Seg
-- ==== Proof.KernelValue.lean ====
/-
  What the kernel leaves over the extended reals: the three calls and the operations between them, put together.
-/
module

public import proofs.«01_k».proof.Proof.Frames
public import proofs.«01_k».proof.Proof.StatsValue
public import proofs.«01_k».proof.Proof.PoolValue
public import proofs.«01_k».proof.Proof.Weights
public import Idealize.ShloMosaic.Lib.Pointwise

@[expose] public section

noncomputable section

namespace Cert.Seg.KernelValue

open Idealize Idealize.ShloMosaic Cert.KernelIdeal Cert.KernelIdeal.Gen
open Idealize.ShloMosaic.TcCoe

/-! ## The reshapes, the padding and the cut, read at an index -/

section
variable {α : Type}

/-- Row `r` of block `t`, among all the rows. -/
def at2 (t : Fin 10) (r : Fin 5000) : Fin 50000 := ⟨t.val * 5000 + r.val, by have := t.isLt; have := r.isLt; omega⟩

/-- An array of rows laid out in blocks. -/
theorem blocks_apply (A : S50000.Idx → α) (t : Fin 10) (r : Fin 5000) :
    shapeCast S10x1x5000 A shapeCasts_S50000_S10x1x5000 (ix3 t 0 r) = A (ix1 (at2 t r)) := by
  pointwise
  rfl

/-- And blocks laid out as rows. -/
theorem rows_apply (A : S10x1x5000.Idx → α) (t : Fin 10) (r : Fin 5000) :
    shapeCast S50000 A shapeCasts_S10x1x5000_S50000 (ix1 (at2 t r)) = A (ix3 t 0 r) := by
  pointwise
  have hr := r.isLt
  exact congrArg₂ (fun (a : Fin 10) (k : Fin 5000) => A (ix3 a 0 k)) (Fin.ext (by show (t.val * 5000 + r.val) / 5000 = t.val; omega))
    (Fin.ext (by show (t.val * 5000 + r.val) % 5000 = r.val; omega))

/-- A column as a vector. -/
theorem column_apply (A : S256x1.Idx → α) (g : Fin 256) : shapeCast S256 A shapeCasts_S256x1_S256 (ix1 g) = A (ix2 g 0) := by
  pointwise

/-- A vector as a row. -/
theorem row_apply (A : S512.Idx → α) (e : Fin 512) : shapeCast S1x512 A shapeCasts_S512_S1x512 (ix2 0 e) = A (ix1 e) := by
  pointwise

/-- A row of the padded arrays. -/
def pad (i : Fin 50000) : Fin 50176 := ⟨i.val, by have := i.isLt; omega⟩

/-- Padding leaves the rows. -/
theorem padded_apply (A : S50000.Idx → α) (B : S176.Idx → α) (i : Fin 50000) :
    concatenate S50176 0 [⟨S50000, A⟩, ⟨S176, B⟩] concatenates_S50000_S176_S50176_d0 (ix1 (pad i)) = A (ix1 i) := by
  refine (concatenate_pair_apply_left (s₁ := S50000) (s₂ := S176) (t := S50176) (a := 0) (x₁ := A) (x₂ := B)
    (h := concatenates_S50000_S176_S50176_d0) (j := ix1 (pad i)) rfl (ix1 i) fun b => ?_)
  obtain rfl : b = 0 := Subsingleton.elim _ _
  rfl

/-- Cutting the padding off leaves the rows. -/
theorem cut_apply (A : S50176.Idx → α) (i : Fin 50000) :
    extractStridedSlice S50000 ![0] A slices_S50176_S50000_0 (ix1 i) = A (ix1 (pad i)) := by
  pointwise
  rfl
end

/-! ## The arrays of the program -/

variable (m : (ℓ : Loc nD τ sig) → Buf (Elt Ideal) ℓ) (c : Dev nD)

/-- The rows, the ids, the query, and the matrices of the keys and of the values: the arguments. -/
abbrev rows0 : S50000x512.Idx → EReal := V0 m c (rf main_arg0)
abbrev ids0 : S50000.Idx → BitVec 32 := V0 m c (rf main_arg1)
abbrev query0 : S512.Idx → EReal := V0 m c (rf main_arg2)
abbrev keys0 : S512x512.Idx → EReal := V0 m c (rf main_arg3)
abbrev vals0 : S512x512.Idx → EReal := V0 m c (rf main_arg4)
/-- What the first call leaves: the scores, the maxima, the sums, and the copy of the rows. -/
abbrev scores2 : S10x1x5000.Idx → EReal := V2 m c (rf main_v2_0)
abbrev max2 : S256x1.Idx → EReal := V2 m c (rf main_v2_1)
abbrev sum2 : S256x1.Idx → EReal := V2 m c (rf main_v2_2)
abbrev copy2 : S50000x512.Idx → EReal := V2 m c (rf main_v2_3)
/-- What the SparseCore call reads: the scores, the ids, the maxima, the sums. -/
abbrev scores3 : S50176.Idx → EReal := V3 m c (rf main_v5)
abbrev ids3 : S50176.Idx → BitVec 32 := V3 m c (rf main_v7)
abbrev max3 : S256.Idx → EReal := V3 m c (rf main_v8)
abbrev sum3 : S256.Idx → EReal := V3 m c (rf main_v9)
/-- And what it leaves: the weights. -/
abbrev soft4 : S50176.Idx → EReal := V4 m c (rf main_v10)

/-- The scores as one function of the row. -/
abbrev sc : ℕ → EReal := score (fun i d => rows0 m c (ix2 i d)) (fun e => query0 m c (ix1 e)) fun e d => keys0 m c (ix2 e d)

variable {X : ℕ → Fin 512 → ℝ} {b : ℕ → ℕ} {W : Fin 512 → Fin 512 → ℝ}
  (hx : ∀ (i : Fin 50000) (d : Fin 512), rows0 m c (ix2 i d) = ((X i d : ℝ) : EReal))
  (hb : ∀ i : Fin 50000, (ids0 m c (ix1 i)).toNat = b i) (hlt : ∀ i : Fin 50000, b i < 256)
  (hv : ∀ e d : Fin 512, vals0 m c (ix2 e d) = ((W e d : ℝ) : EReal))

/-- The scores the first call takes. -/
theorem hsc (i : Fin 50000) : (∑ e : Fin 512, StatsValue.queryA (at' (V1 m)) c (ix2 0 e)
    * ∑ d : Fin 512, StatsValue.rowsA (at' (V1 m)) c (ix2 i d) * StatsValue.keysA (at' (V1 m)) c (ix2 e d)) = sc m c i := by
  have e0 : StatsValue.rowsA (at' (V1 m)) c = rows0 m c := V1_ne m c main_arg0 (by decide) (by decide)
  have e3 : StatsValue.keysA (at' (V1 m)) c = keys0 m c := V1_ne m c main_arg3 (by decide) (by decide)
  have e1 : ∀ e : Fin 512, StatsValue.queryA (at' (V1 m)) c (ix2 0 e) = query0 m c (ix1 e) := fun e =>
    (congrFun (V1_query m c) (ix2 0 e)).trans (row_apply (query0 m c) e)
  rw [e0, e3, sc, score, dif_pos i.isLt]
  refine Finset.sum_congr rfl fun e _ => ?_
  rw [e1]

include hb in
/-- The ids in blocks are the ids. -/
theorem hid1 (t : Fin 10) (r : Fin 5000) : (StatsValue.idsA (at' (V1 m)) c (ix3 t 0 r)).toNat = b (t * 5000 + r) := by
  have e : StatsValue.idsA (at' (V1 m)) c (ix3 t 0 r) = ids0 m c (ix1 (at2 t r)) :=
    (congrFun (V1_ids m c) (ix3 t 0 r)).trans (blocks_apply (ids0 m c) t r)
  rw [e, hb]
  rfl

/-- The scores the first call leaves. -/
theorem scores2_at (t : Fin 10) (r : Fin 5000) : scores2 m c (ix3 t 0 r) = sc m c (t * 5000 + r) := by
  have e : scores2 m c = fun j => sc m c ((j 0).val * 5000 + (j 2).val) :=
    (afterStats_scores (V1 m) c).trans (StatsValue.scores_out (at' (V1 m)) c (hsc m c))
  exact congrFun e (ix3 t 0 r)

include hb

/-- The maxima it leaves. -/
theorem max2_at (g : Fin 256) : max2 m c (ix2 g 0)
    = if Math.top b (sc m c) g 50000 = ⊥ then 0 else Math.top b (sc m c) g 50000 :=
  congrFun ((afterStats_max (V1 m) c).trans (StatsValue.max_out (at' (V1 m)) c (hsc m c) (hid1 m c hb))) (ix2 g 0)

/-- The sums it leaves. -/
theorem sum2_at (g : Fin 256) : sum2 m c (ix2 g 0) = ((Math.tot b (sc m c) g 50000 : ℝ) : EReal) :=
  congrFun ((afterStats_sum (V1 m) c).trans (StatsValue.sum_out (at' (V1 m)) c (hsc m c) (hid1 m c hb))) (ix2 g 0)

omit hb in
/-- The copy it leaves. -/
theorem copy2_eq : copy2 m c = rows0 m c :=
  ((afterStats_copy (V1 m) c).trans (StatsValue.copy_out (at' (V1 m)) c)).trans (V1_ne m c main_arg0 (by decide) (by decide))

omit hb in
/-- The scores the SparseCore call reads. -/
theorem scores3_at (t : Fin 10) (r : Fin 5000) : scores3 m c (ix1 (pad (at2 t r))) = sc m c (t * 5000 + r) :=
  (congrFun (V3_scores m c) _).trans ((padded_apply _ _ (at2 t r)).trans ((rows_apply (scores2 m c) t r).trans (scores2_at m c t r)))

/-- The ids it reads. -/
theorem ids3_at (t : Fin 10) (r : Fin 5000) : (ids3 m c (ix1 (pad (at2 t r)))).toNat = b (t * 5000 + r) := by
  have e : ids3 m c (ix1 (pad (at2 t r))) = ids0 m c (ix1 (at2 t r)) := (congrFun (V3_ids m c) _).trans (padded_apply _ _ (at2 t r))
  rw [e, hb]
  rfl

/-- The maxima it reads. -/
theorem max3_at (g : Fin 256) : max3 m c (ix1 g)
    = if Math.top b (sc m c) g 50000 = ⊥ then 0 else Math.top b (sc m c) g 50000 :=
  (congrFun (V3_max m c) _).trans ((column_apply (max2 m c) g).trans (max2_at m c hb g))

/-- The sums it reads. -/
theorem sum3_at (g : Fin 256) : sum3 m c (ix1 g) = ((Math.tot b (sc m c) g 50000 : ℝ) : EReal) :=
  (congrFun (V3_sum m c) _).trans ((column_apply (sum2 m c) g).trans (sum2_at m c hb g))

omit hb in
/-- One lane of the SparseCore kernel. -/
theorem lane_eq (a u s : EReal) : (Tile.lane (F := Ideal) a u s : EReal) = Ideal.div (Ideal.exp (a - u)) (s + Ideal.ofBits .f32 0x24E69595#32) := by
  pointwise [Tile.lane, k1_pay1]

include hlt

/-- The weights it leaves. -/
theorem soft4_at (t : Fin 10) (r : Fin 5000) : soft4 m c (ix1 (pad (at2 t r))) = ((weight b (sc m c) (t * 5000 + r) : ℝ) : EReal) := by
  have e : soft4 m c (ix1 (pad (at2 t r))) = Tile.lane (F := Ideal) (scores3 m c (ix1 (pad (at2 t r))))
      (max3 m c (Tile.segIx (ids3 m c (ix1 (pad (at2 t r)))))) (sum3 m c (Tile.segIx (ids3 m c (ix1 (pad (at2 t r)))))) :=
    congrFun (afterSoft_out (V3 m) c) _
  have hg : Tile.segIx (ids3 m c (ix1 (pad (at2 t r)))) = ix1 ⟨b (t * 5000 + r), hlt (at2 t r)⟩ := by
    funext a
    obtain rfl : a = 0 := Subsingleton.elim _ _
    refine Fin.ext ?_
    show (ids3 m c (ix1 (pad (at2 t r)))).toNat % 256 = b (t * 5000 + r)
    rw [ids3_at m c hb]
    exact Nat.mod_eq_of_lt (hlt (at2 t r))
  rw [e, hg, lane_eq, scores3_at m c, max3_at m c hb, sum3_at m c hb]
  exact weight_eq b (sc m c) _ (at2 t r).isLt

/-- The weights the last call reads. -/
theorem hw (t : Fin 10) (r : Fin 5000) :
    PoolValue.softA (at' (V5 m)) c (ix3 t 0 r) = ((weight b (sc m c) (t * 5000 + r) : ℝ) : EReal) :=
  (congrFun (V5_soft m c) _).trans ((blocks_apply _ t r).trans ((cut_apply (soft4 m c) (at2 t r)).trans (soft4_at m c hb hlt t r)))

omit hb hlt in
/-- An array that neither the SparseCore call nor the operations about it write. -/
theorem V5_eq (r : Ref sig .tc) (h : r ∈ ({main_v0, main_v2_3} : Finset (Ref sig .tc))) : V5 m c (rf r) = V2 m c (rf r) := by
  have hs : ∀ r ∈ ({main_v0, main_v2_3} : Finset (Ref sig .tc)),
      r ∉ ({main_v3, main_cst, main_v4, main_v5, main_c, main_v6, main_v7, main_v8, main_v9, main_v10, main_v11, main_v12} : Finset (Ref sig .tc)) := by decide
  have hr := hs r h
  simp only [Finset.mem_insert, Finset.mem_singleton, not_or] at hr
  obtain ⟨c3, cc, c4, c5, ci, c6, c7, c8, c9, d0, d1, d2⟩ := hr
  rw [V5_ne m c r d1 d2, V4, afterSoft_ne _ _ _ d0, V3_ne m c r c3 cc c4 c5 ci c6 c7 c8 c9]

omit hlt in
/-- The ids it reads. -/
theorem hid5 (t : Fin 10) (r : Fin 5000) : (PoolValue.idsA (at' (V5 m)) c (ix3 t 0 r)).toNat = b (t * 5000 + r) := by
  have e : PoolValue.idsA (at' (V5 m)) c = StatsValue.idsA (at' (V1 m)) c :=
    (V5_eq m c main_v0 (by decide)).trans (afterStats_ne (V1 m) c main_v0 (by decide) (by decide) (by decide) (by decide))
  rw [e]
  exact hid1 m c hb t r

include hx hv

/-- The result: for every segment and column, the sum over the segment's rows of weight times value. -/
theorem result_eq : (V6 m c (rf main_v13) : S256x512.Idx → EReal) = PoolValue.pooled b (weight b (sc m c)) X W := by
  have ex : PoolValue.rowsA (at' (V5 m)) c = rows0 m c := (V5_eq m c main_v2_3 (by decide)).trans (copy2_eq m c)
  have ev : PoolValue.valsA (at' (V5 m)) c = vals0 m c := by
    have e5 : V5 m c (rf main_arg4) = V4 m c (rf main_arg4) := V5_ne m c main_arg4 (by decide) (by decide)
    have e4 : V4 m c (rf main_arg4) = V3 m c (rf main_arg4) := afterSoft_ne (V3 m) c main_arg4 (by decide)
    exact e5.trans (e4.trans (V3_arg m c main_arg4 (by decide)))
  refine (afterPool_out (V5 m) c).trans (PoolValue.pool_out (at' (V5 m)) c (hw m c hb hlt) (hid5 m c hb) ?_ ?_)
  · intro i d
    rw [ex, hx]
  · intro e d
    rw [ev, hv]

end Cert.Seg.KernelValue
-- ==== Proof.RefScatter.lean ====
/-
  The reference's accumulating scatters: the updates that land on a segment are those whose id is its number.
-/
module

public import proofs.«01_k».proof.Proof.Math
public import proofs.«01_k».proof.Proof.Gen.ReferenceIdeal
public import Idealize.ShloMosaic.Lib.Pointwise
public import Idealize.ShloMosaic.Lib.Routing.OpsPair

@[expose] public section

noncomputable section

namespace Cert.Seg.RefValue

open Idealize Idealize.ShloMosaic Cert.ReferenceIdeal Cert.ReferenceIdeal.Gen

variable (ids : IVec S50000x1 32)

/-- Where an update of the scatter of scalars starts: at its row's id. -/
theorem start_one (k : Fin 50000) :
    scatter_S256_S50000x1_S50000_n_0_0_1.start (ix1 k) ids 0 = (ids (ix2 k 0)).toInt := by
  have h : scatter_S256_S50000x1_S50000_n_0_0_1.siIdx (ix1 k) ⟨0, by decide⟩ = ix2 k 0 := by
    funext a
    match a with
    | ⟨0, _⟩ => rfl
    | ⟨1, _⟩ => rfl
  exact congrArg (fun i => (ids i).toInt) h

/-- An update of the scatter of scalars lands on a segment exactly when its row's id is the segment's number. -/
theorem lands_one (k : Fin 50000) (g : Fin 256) :
    scatter_S256_S50000x1_S50000_n_0_0_1.resultIdx? (ix1 k) ids = some (ix1 g) ↔ (ids (ix2 k 0)).toInt = (g : ℕ) := by
  refine (Routing.resultIdx?_ix1 _ _ _ g).trans ?_
  have hw : scatter_S256_S50000x1_S50000_n_0_0_1.window (ix1 k) 0 = 0 := rfl
  rw [start_one, hw]
  simp

/-- Where an update of the scatter of rows starts: at its row's id. -/
theorem start_row (k : Fin 50000) (j : Fin 512) :
    scatter_S256x512_S50000x1_S50000x512_1_0_0_1.start (ix2 k j) ids 0 = (ids (ix2 k 0)).toInt := by
  have h : scatter_S256x512_S50000x1_S50000x512_1_0_0_1.siIdx (ix2 k j) ⟨0, by decide⟩ = ix2 k 0 := by
    funext a
    match a with
    | ⟨0, _⟩ => rfl
    | ⟨1, _⟩ => rfl
  exact congrArg (fun i => (ids i).toInt) h

/-- An update of the scatter of rows lands on a segment's column exactly when its row's id is the segment's number and its
    column is that column. -/
theorem lands_row (k : Fin 50000) (l : Fin 512) (g : Fin 256) (j : Fin 512) :
    scatter_S256x512_S50000x1_S50000x512_1_0_0_1.resultIdx? (ix2 k l) ids = some (ix2 g j)
      ↔ (ids (ix2 k 0)).toInt = (g : ℕ) ∧ l = j := by
  refine (Routing.resultIdx?_ix2 _ _ _ g j).trans ?_
  have hw : scatter_S256x512_S50000x1_S50000x512_1_0_0_1.window (ix2 k l) 0 = 0 := rfl
  have hv : scatter_S256x512_S50000x1_S50000x512_1_0_0_1.window (ix2 k l) 1 = l.val := rfl
  have hs : scatter_S256x512_S50000x1_S50000x512_1_0_0_1.start (ix2 k l) ids 1 = 0 := rfl
  rw [start_row, hw, hv, hs, Fin.ext_iff]
  omega

/-- A word below 256, read with its sign, is its number. -/
theorem small_int (w : BitVec 32) (h : w.toNat < 256) (g : ℕ) : w.toInt = (g : ℤ) ↔ w.toNat = g := by
  rw [BitVec.toInt_eq_toNat_of_lt (by omega)]
  omega

variable (hlt : ∀ k : Fin 50000, (ids (ix2 k 0)).toNat < 256)
include hlt

/-- The scatter of scalars, read at a segment: what was there, and the sum of the updates of the segment's rows. -/
theorem scatter_one (x : FVec Ideal S256 .f32) (u : FVec Ideal S50000 .f32) (g : Fin 256) :
    (Host.scatterAdd scatter_S256_S50000x1_S50000_n_0_0_1 x ids u (ix1 g) : EReal)
      = x (ix1 g) + ∑ k : Fin 50000, if (ids (ix2 k 0)).toNat = ↑g then u (ix1 k) else 0 := by
  show x (ix1 g) + (∑ j ∈ Finset.univ.filter (fun j => scatter_S256_S50000x1_S50000_n_0_0_1.resultIdx? j ids = some (ix1 g)), u j) = _
  rw [Finset.sum_filter, sum_idx1]
  refine congrArg _ (Finset.sum_congr rfl fun k _ => if_congr ?_ rfl rfl)
  exact (lands_one ids k g).trans (small_int _ (hlt k) _)

/-- The scatter of rows, read at a segment and a column: what was there, and the sum of the updates of the segment's rows in
    that column. -/
theorem scatter_row (x : FVec Ideal S256x512 .f32) (u : FVec Ideal S50000x512 .f32) (g : Fin 256) (j : Fin 512) :
    (Host.scatterAdd scatter_S256x512_S50000x1_S50000x512_1_0_0_1 x ids u (ix2 g j) : EReal)
      = x (ix2 g j) + ∑ k : Fin 50000, if (ids (ix2 k 0)).toNat = ↑g then u (ix2 k j) else 0 := by
  show x (ix2 g j) + (∑ i ∈ Finset.univ.filter (fun i => scatter_S256x512_S50000x1_S50000x512_1_0_0_1.resultIdx? i ids = some (ix2 g j)), u i) = _
  rw [Finset.sum_filter, sum_idx2]
  refine congrArg _ (Finset.sum_congr rfl fun k _ => ?_)
  have h : ∀ l : Fin 512, (if scatter_S256x512_S50000x1_S50000x512_1_0_0_1.resultIdx? (ix2 k l) ids = some (ix2 g j) then (u (ix2 k l) : EReal) else 0)
      = if l = j then (if (ids (ix2 k 0)).toNat = ↑g then u (ix2 k l) else 0) else 0 := fun l => by
    rw [← ite_and]
    exact if_congr ((lands_row ids k l g j).trans (by rw [small_int _ (hlt k), and_comm])) rfl rfl
  rw [Finset.sum_congr rfl fun l _ => h l, Finset.sum_ite_eq' Finset.univ j, if_pos (Finset.mem_univ j)]

end Cert.Seg.RefValue
-- ==== Proof.RefValue.lean ====
/-
  What the reference leaves over the extended reals: for every segment and every output column, the sum over the segment's
  rows of the row's weight times the row's value.
-/
module

public import proofs.«01_k».proof.Proof.RefScatter
public import proofs.«01_k».proof.Proof.Weights
public import proofs.«01_k».proof.Proof.PoolValue
public import proofs.«01_k».proof.Proof.Gen.ReferenceIdeal.Run
public import Idealize.ShloMosaic.Lib.Routing.OpsSearch

@[expose] public section

noncomputable section

namespace Cert.Seg.RefValue

open Idealize Idealize.ShloMosaic Cert.ReferenceIdeal Cert.ReferenceIdeal.Gen

variable (x : FVec Ideal S50000x512 .f32) (ids : IVec S50000 32) (q : FVec Ideal S512 .f32) (wk wv : FVec Ideal S512x512 .f32)

/-! ## The reference, stage by stage -/

/-- The rows' scores. -/
def scores : FVec Ideal S50000 .f32 :=
  Host.dotGeneral dot_S50000x512_S512_S50000_1_0_0_n_n_n none
    (Host.dotGeneral dot_S50000x512_S512x512_S50000x512_1_0_0_1_n_n none x
      (transpose S512x512 [1, 0] wk transposes_S512x512_S512x512_1_0)) q

/-- The scores laid out by segment, −∞ where a row is of another segment. -/
def table : FVec Ideal S256x50000 .f32 :=
  select (cmpi .eq (broadcastInDim S256x50000 ![0, 1] bcast_S256x1_S256x50000_0_1 (broadcastInDim S256x1 ![0] bcast_S256_S256x1_0 (iotaInDim S256 32 0)))
      (broadcastInDim S256x50000 ![0, 1] bcast_S1x50000_S256x50000_0_1 (broadcastInDim S1x50000 ![1] bcast_S50000_S1x50000_1 ids)))
    (broadcastInDim S256x50000 ![0, 1] bcast_S1x50000_S256x50000_0_1 (broadcastInDim S1x50000 ![1] bcast_S50000_S1x50000_1 (scores x q wk)))
    (broadcastInDim S256x50000 ![] bcast_S_S256x50000 (id (constant S_ .f32 0xFF800000#32)))

/-- The segments' greatest scores. -/
def greatest : FVec Ideal S256 .f32 :=
  Host.reduce FloatOps.maximumf (table x ids q wk) (constant S_ .f32 0xFF800000#32) reducesTo_S256x50000_S256_d1 h_S_

/-- Those, with zero where they are not finite. -/
def maxima : FVec Ideal S256 .f32 :=
  select (cmpf .olt (Host.absf (greatest x ids q wk)) (broadcastInDim S256 ![] bcast_S_S256 (constant S_ .f32 0x7F800000#32)))
    (greatest x ids q wk) (broadcastInDim S256 ![] bcast_S_S256 (id (constant S_ .f32 0x00000000#32)))

/-- The ids as lookups take them: a negative one counts from the end. -/
def look : IVec S50000x1 32 :=
  broadcastInDim S50000x1 ![0] bcast_S50000_S50000x1_0
    (select (cmpi .slt ids (broadcastInDim S50000 ![] bcast_S_S50000 (constantI S_ 32 0#32)))
      (addi ids (broadcastInDim S50000 ![] bcast_S_S50000 (constantI S_ 32 256#32))) ids)

/-- The ids as a column. -/
def column : IVec S50000x1 32 := broadcastInDim S50000x1 ![0] bcast_S50000_S50000x1_0 ids

/-- The exponentials of the scores over their segments' maxima. -/
def exps : FVec Ideal S50000 .f32 :=
  Host.exp (subf (scores x q wk) (Host.gather gather_S256_S50000x1_S50000_n_0_n_n_0_1_1 (maxima x ids q wk) (look ids)))

/-- Their sums by segment. -/
def sums : FVec Ideal S256 .f32 :=
  Host.scatterAdd scatter_S256_S50000x1_S50000_n_0_0_1 (broadcastInDim S256 ![] bcast_S_S256 (constant S_ .f32 0x00000000#32))
    (column ids) (exps x ids q wk)

/-- The rows' weights. -/
def weights : FVec Ideal S50000 .f32 :=
  Host.divf (exps x ids q wk)
    (addf (Host.gather gather_S256_S50000x1_S50000_n_0_n_n_0_1_1 (sums x ids q wk) (look ids))
      (broadcastInDim S50000 ![] bcast_S_S50000 (constant S_ .f32 0x24E69595#32)))

/-- The rows' values, each times its row's weight. -/
def updates : FVec Ideal S50000x512 .f32 :=
  mulf (broadcastInDim S50000x512 ![0, 1] bcast_S50000x1_S50000x512_0_1
      (broadcastInDim S50000x1 ![0] bcast_S50000_S50000x1_0 (weights x ids q wk)))
    (Host.dotGeneral dot_S50000x512_S512x512_S50000x512_1_0_0_1_n_n none x
      (transpose S512x512 [1, 0] wv transposes_S512x512_S512x512_1_0))

/-- The result. -/
def result : FVec Ideal S256x512 .f32 :=
  Host.scatterAdd scatter_S256x512_S50000x1_S50000x512_1_0_0_1 (broadcastInDim S256x512 ![] bcast_S_S256x512 (constant S_ .f32 0x00000000#32))
    (column ids) (updates x ids q wk wv)

/-- The run's result is these stages of its arguments. -/
theorem run_result (m : (ℓ : Loc nD τ sig) → Buf (Elt Ideal) ℓ) (c : Dev nD) :
    Value.res_main_v45 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-! ## Each stage read -/

/-- The scores as one function of the row. -/
abbrev sc : ℕ → EReal := score (fun i d => x (ix2 i d)) (fun e => q (ix1 e)) fun e d => wk (ix2 e d)

variable {X : ℕ → Fin 512 → ℝ} {b : ℕ → ℕ} {W : Fin 512 → Fin 512 → ℝ}
  (hx : ∀ (i : Fin 50000) (d : Fin 512), x (ix2 i d) = ((X i d : ℝ) : EReal))
  (hb : ∀ i : Fin 50000, (ids (ix1 i)).toNat = b i) (hlt : ∀ i : Fin 50000, b i < 256)
  (hv : ∀ e d : Fin 512, wv (ix2 e d) = ((W e d : ℝ) : EReal))

/-- A row's score. -/
theorem scores_at (i : Fin 50000) : scores x q wk (ix1 i) = sc x q wk i := by
  have h : scores x q wk (ix1 i) = ∑ e : Fin 512, (∑ d : Fin 512, (x (ix2 i d) : EReal) * wk (ix2 e d)) * q (ix1 e) := by
    pointwise [scores]
  rw [h, sc, score, dif_pos i.isLt]
  exact Finset.sum_congr rfl fun e _ => mul_comm _ _

include hb in
/-- The table at a segment and a row. -/
theorem table_at (g : Fin 256) (i : Fin 50000) :
    table x ids q wk (ix2 g i) = if b i = ↑g then sc x q wk i else ⊥ := by
  have h : table x ids q wk (ix2 g i)
      = Scalar.select (IntOp.cmpi .eq (BitVec.ofNat 32 ↑g) (ids (ix1 i))) (scores x q wk (ix1 i)) (Ideal.ofBits .f32 0xFF800000#32) := by
    pointwise [table]
    rfl
  rw [h, StatsBlock.select_id, StatsBlock.negInf, scores_at, hb]

include hb in
/-- A segment's greatest score. -/
theorem greatest_at (g : Fin 256) : greatest x ids q wk (ix1 g) = Math.top b (sc x q wk) g 50000 := by
  have h : greatest x ids q wk (ix1 g) = Finset.univ.fold max (Ideal.ofBits .f32 0xFF800000#32) fun i : Fin 50000 => table x ids q wk (ix2 g i) := by
    pointwise [greatest]
  rw [h, StatsBlock.negInf, Math.top_eq_fold]
  exact congrArg (Finset.fold max ⊥ · Finset.univ) (funext fun i => table_at x ids q wk hb g i)

/-- The magnitude of a float over the extended reals. -/
theorem absf_eq (y : EReal) : (FloatOps.absf (F := Ideal) (φ := .f32) y : EReal) = max y (-y) := rfl

/-- An extended real, with zero where it is not finite. -/
theorem finite_or_zero (T : EReal) :
    (if (FloatOps.absf (F := Ideal) (φ := .f32) T : EReal) < ⊤ then T else 0) = if T = ⊤ then 0 else if T = ⊥ then 0 else T := by
  rw [absf_eq]
  induction T with
  | bot => rw [if_neg (by simp), if_neg bot_ne_top, if_pos rfl]
  | top => rw [if_neg (by simp), if_pos rfl]
  | coe r =>
    rw [if_pos, if_neg (EReal.coe_ne_top r), if_neg (EReal.coe_ne_bot r)]
    exact max_lt (EReal.coe_lt_top r) (by rw [← EReal.coe_neg]; exact EReal.coe_lt_top _)

/-- The constant ∞ is the greatest extended real. -/
theorem posInf : Ideal.ofBits .f32 0x7F800000#32 = ⊤ := by simp [Ideal.ofBits, Ideal.ieee]

/-- The maxima read off the greatest scores. -/
theorem maxima_of (G : FVec Ideal S256 .f32) (g : Fin 256) :
    select (cmpf .olt (Host.absf G) (broadcastInDim S256 ![] bcast_S_S256 (constant S_ .f32 0x7F800000#32))) G
        (broadcastInDim S256 ![] bcast_S_S256 (id (constant S_ .f32 0x00000000#32))) (ix1 g)
      = if (G (ix1 g) : EReal) = ⊤ then (0 : EReal) else if (G (ix1 g) : EReal) = ⊥ then (0 : EReal) else G (ix1 g) := by
  simp only [id_eq]
  pointwise
  rw [posInf]
  exact finite_or_zero _

include hb in
/-- A segment's maximum. -/
theorem maxima_at (g : Fin 256) : maxima x ids q wk (ix1 g) = finiteTop b (sc x q wk) g := by
  have e := greatest_at x ids q wk hb g
  have h := maxima_of (greatest x ids q wk) g
  rw [e] at h
  exact h

include hb hlt

/-- The id a lookup takes is the row's. -/
theorem look_at (i : Fin 50000) : look ids (ix2 i 0) = BitVec.ofNat 32 (b i) := by
  have h : look ids (ix2 i 0) = Scalar.select (IntOp.cmpi .slt (ids (ix1 i)) 0#32) (ids (ix1 i) + 256#32) (ids (ix1 i)) := by
    pointwise [look]
    rfl
  have hs : (ids (ix1 i)).toNat < 256 := by rw [hb]; exact hlt i
  rw [h, Routing.wrap_of_lt _ _ (by omega), ← hb, BitVec.ofNat_toNat, BitVec.setWidth_eq]

/-- A lookup by a row's id. -/
theorem gather_at (t : FVec Ideal S256 .f32) (i : Fin 50000) :
    Host.gather gather_S256_S50000x1_S50000_n_0_n_n_0_1_1 t (look ids) (ix1 i) = t (ix1 ⟨b i, hlt i⟩) :=
  Routing.take_ap _ rfl rfl rfl rfl t (look ids) i (hlt i) (by have := hlt i; omega) (look_at ids hb hlt i)

omit hlt in
/-- The column of ids. -/
theorem column_at (i : Fin 50000) : (column ids (ix2 i 0)).toNat = b i := by
  have h : column ids (ix2 i 0) = ids (ix1 i) := by
    pointwise [column]
  rw [h, hb]

/-- The exponential of a row's score less its segment's maximum. -/
theorem exps_at (i : Fin 50000) : exps x ids q wk (ix1 i) = Ideal.exp (sc x q wk i - finiteTop b (sc x q wk) (b i)) := by
  have h : exps x ids q wk (ix1 i) = Ideal.exp (scores x q wk (ix1 i)
      - Host.gather gather_S256_S50000x1_S50000_n_0_n_n_0_1_1 (maxima x ids q wk) (look ids) (ix1 i)) := rfl
  rw [h, gather_at ids hb hlt, scores_at, maxima_at x ids q wk hb]

/-- A segment's sum. -/
theorem sums_at (g : Fin 256) : sums x ids q wk (ix1 g) = plainSum b (sc x q wk) g := by
  have hz : broadcastInDim S256 ![] bcast_S_S256 (constant (F := Ideal) S_ .f32 0x00000000#32) (ix1 g) = (0 : EReal) := by
    pointwise
  have hc : ∀ k : Fin 50000, (column ids (ix2 k 0)).toNat < 256 := fun k => by rw [column_at ids hb]; exact hlt k
  refine (scatter_one (column ids) hc _ _ g).trans ?_
  rw [hz, zero_add, plainSum]
  refine Finset.sum_congr rfl fun i _ => ?_
  rw [column_at ids hb, exps_at x ids q wk hb hlt]
  by_cases hg : b i = ↑g
  · rw [if_pos hg, if_pos hg, hg]
  · rw [if_neg hg, if_neg hg]

/-- A row's weight. -/
theorem weights_at (i : Fin 50000) : weights x ids q wk (ix1 i) = ((weight b (sc x q wk) i : ℝ) : EReal) := by
  have h : weights x ids q wk (ix1 i) = Ideal.div (exps x ids q wk (ix1 i))
      (Host.gather gather_S256_S50000x1_S50000_n_0_n_n_0_1_1 (sums x ids q wk) (look ids) (ix1 i) + Ideal.ofBits .f32 0x24E69595#32) := by
    pointwise [weights]
  rw [h, gather_at ids hb hlt, sums_at x ids q wk hb hlt, exps_at x ids q wk hb hlt]
  exact plain_weight b (sc x q wk) i i.isLt

include hx hv

/-- A row's value in a column, times the row's weight. -/
theorem updates_at (i : Fin 50000) (j : Fin 512) :
    updates x ids q wk wv (ix2 i j) = ((weight b (sc x q wk) i * ∑ d : Fin 512, X i d * W j d : ℝ) : EReal) := by
  have h : updates x ids q wk wv (ix2 i j) = weights x ids q wk (ix1 i) * ∑ d : Fin 512, (x (ix2 i d) : EReal) * wv (ix2 j d) := by
    pointwise [updates]
  rw [h, weights_at x ids q wk hb hlt, EReal.coe_mul, Math.coe_sum]
  refine congrArg _ (Finset.sum_congr rfl fun d _ => ?_)
  rw [hx, hv, EReal.coe_mul]

/-- The result at a segment and a column. -/
theorem result_at (g : Fin 256) (j : Fin 512) :
    result x ids q wk wv (ix2 g j) = PoolValue.pooled b (weight b (sc x q wk)) X W (ix2 g j) := by
  have hz : broadcastInDim S256x512 ![] bcast_S_S256x512 (constant (F := Ideal) S_ .f32 0x00000000#32) (ix2 g j) = (0 : EReal) := by
    pointwise
  have hc : ∀ k : Fin 50000, (column ids (ix2 k 0)).toNat < 256 := fun k => by rw [column_at ids hb]; exact hlt k
  refine (scatter_row (column ids) hc _ _ g j).trans ?_
  rw [hz, zero_add]
  show _ = ((∑ i ∈ Finset.range 50000, if b i = ↑g then weight b (sc x q wk) i * ∑ d : Fin 512, X i d * W j d else 0 : ℝ) : EReal)
  rw [Finset.sum_range, Math.coe_sum]
  refine Finset.sum_congr rfl fun i _ => ?_
  rw [column_at ids hb, updates_at x ids q wk wv hx hb hlt hv]
  by_cases hg : b i = ↑g
  · rw [if_pos hg, if_pos hg]
  · rw [if_neg hg, if_neg hg]; rfl

/-- The result: for every segment and column, the sum over the segment's rows of weight times value. -/
theorem result_eq : result x ids q wk wv = PoolValue.pooled b (weight b (sc x q wk)) X W := by
  funext y
  have h := result_at x ids q wk wv hx hb hlt hv (y 0) (y 1)
  rw [show y = ix2 (y 0) (y 1) from eq_ix2 y]
  exact h

end Cert.Seg.RefValue
-- ==== Proof.Equal.lean ====
/-
  The kernel's result is the reference's, over the extended reals: both are the same sums of real numbers.
-/
module

public import proofs.«01_k».proof.Proof.KernelValue
public import proofs.«01_k».proof.Proof.RefValue
public import proofs.«01_k».proof.Proof.Finite

@[expose] public section

noncomputable section

namespace Cert.Seg

open Idealize Idealize.ShloMosaic
open Idealize.ShloMosaic.TcCoe

/-- From one memory that meets the precondition, and another with the same arguments: the kernel's result and the reference's
    are one array. -/
theorem value_eq (m : (ℓ : Loc Cert.KernelIdeal.nD Cert.KernelIdeal.τ Cert.KernelIdeal.sig) → Buf (Elt Ideal) ℓ) (c : Dev Cert.KernelIdeal.nD)
    (h : ∀ j, Cert.Pre_finite_in_range.fn (F := Ideal) (KernelValue.rows0 m c) (KernelValue.ids0 m c) (KernelValue.query0 m c)
      (KernelValue.keys0 m c) (KernelValue.vals0 m c) j = 1#1) :
    (V6 m c (rf Cert.KernelIdeal.main_v13) : Cert.KernelIdeal.S256x512.Idx → EReal)
      = RefValue.result (KernelValue.rows0 m c) (KernelValue.ids0 m c) (KernelValue.query0 m c) (KernelValue.keys0 m c) (KernelValue.vals0 m c) := by
  obtain ⟨h0, h1, h4⟩ := finite_of_pre _ _ _ _ _ h
  choose x hx using h0
  choose v hv using h4
  let X : ℕ → Fin 512 → ℝ := fun i d => if hi : i < 50000 then x (ix2 ⟨i, hi⟩ d) else 0
  let b : ℕ → ℕ := fun i => if hi : i < 50000 then (KernelValue.ids0 m c (ix1 ⟨i, hi⟩)).toNat else 0
  have hX : ∀ (i : Fin 50000) (d : Fin 512), KernelValue.rows0 m c (ix2 i d) = ((X i d : ℝ) : EReal) := fun i d => by
    have e : X i d = x (ix2 i d) := dif_pos i.isLt
    rw [e]
    exact hx _
  have hb : ∀ i : Fin 50000, (KernelValue.ids0 m c (ix1 i)).toNat = b i := fun i => by
    have e : b i = (KernelValue.ids0 m c (ix1 i)).toNat := dif_pos i.isLt
    exact e.symm
  have hlt : ∀ i : Fin 50000, b i < 256 := fun i => (hb i).symm ▸ h1 (ix1 i)
  exact (KernelValue.result_eq m c (W := fun e d => v (ix2 e d)) hX hb hlt fun e d => hv _).trans
    (RefValue.result_eq _ _ _ _ _ hX hb hlt fun e d => hv _).symm

/-- The value claim: where the rows and the values' matrix are finite and the ids in range, the kernel and the reference end with one result. -/
theorem value_claim : Cert.algebraic_KernelIdeal_ReferenceIdeal_pre_finite_in_range := by
  intro m g m' g' hpre hm
  have hp : ∀ (c : Dev Cert.KernelIdeal.nD) j, Cert.Pre_finite_in_range.fn (F := Ideal) (KernelValue.rows0 m c) (KernelValue.ids0 m c)
      (KernelValue.query0 m c) (KernelValue.keys0 m c) (KernelValue.vals0 m c) j = 1#1 := fun c j => congrFun (hpre c) j
  refine ⟨fun c => V6 m c (rf Cert.KernelIdeal.main_v13), ?_, ?_⟩
  · refine (θ_run Cert.KernelIdeal.defs _ _).mono (fun r hr c => ⟨hr.1 c (rf Cert.KernelIdeal.main_v13) (by decide), frame_of (F := Ideal) m r hr c⟩)
      (run_final (F := Ideal) m g (idsOk_of (F := Ideal) m fun d i => (finite_of_pre _ _ _ _ _ (hp d)).2.1 i))
  · refine (θ_run Cert.ReferenceIdeal.defs _ _).mono (fun r hr c => ⟨(hr c).1.trans ?_, (hr c).2⟩) (Cert.ReferenceIdeal.Value.run (F := Ideal) m' g')
    rw [RefValue.run_result]
    obtain ⟨e0, e1, e2, e3, e4⟩ := hm c
    rw [e0, e1, e2, e3, e4]
    exact (value_eq m c (hp c)).symm

end Cert.Seg
-- ==== Proof.lean ====
/-
  The certificate's claim, from the claims proved one by one.
-/
module

public import proofs.«01_k».proof.Defs
public import proofs.«01_k».proof.Proof.Frames
public import proofs.«01_k».proof.Proof.Finite
public import proofs.«01_k».proof.Proof.Equal

@[expose] public section

noncomputable section

namespace Cert.Proof

/-- Everything claimed: the frames, that nothing was rewritten, and that the kernel's result is the reference's. -/
theorem claim : Cert.Claim :=
  ⟨Cert.Kernel.Gen.facts, Cert.KernelIdeal.Gen.facts, Cert.ReferenceIdeal.Gen.facts, Cert.Pre_ids_in_range.Gen.facts,
    Cert.Pre_finite_in_range.Gen.facts, Cert.Seg.frame_kernel, Cert.Seg.frame_ideal, Cert.Seg.frame_ideal_finite, Cert.Seg.frame_ref,
    Cert.Seg.frame_ref_finite, trivial, Cert.Seg.value_claim⟩

end Cert.Proof

end
